-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256 : Shape := ⟨1, ![256]⟩
abbrev S8192x256x2 : Shape := ⟨3, ![8192, 256, 2]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S8192x256x2 : S_.BroadcastsInDim S8192x256x2 (![] : Fin 0 → Fin S8192x256x2.rank)
  reducesTo_S8192x256x2_S_d0_1_2 : S8192x256x2.ReducesTo [0, 1, 2] S_

variable [Facts]

def fn {F : FTy → Type} [FloatOps F] (main_arg0 : FVec F S256 .f32) (main_arg1 : FVec F S256 .f32) (main_arg2 : FVec F S8192x256x2 .f32) : IVec S_ 1 :=
  let main_v0 : FVec F S256 .f32 := Host.absf main_arg0
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S8192x256x2 .f32 := Host.absf main_arg2
  let main_cst_2 : FVec F S_ .f32 := constant S_ .f32 0x7F800000#32
  let main_v10 : FVec F S8192x256x2 .f32 := broadcastInDim S8192x256x2 ![] bcast_S_S8192x256x2 main_cst_2
  let main_v11 : IVec S8192x256x2 1 := cmpf .olt main_v9 main_v10
  let main_c_3 : IVec S_ 1 := constantI S_ 1 1#1
  let main_v12 : IVec S_ 1 := (fun x v => Host.reduce IntOp.andi x v reducesTo_S8192x256x2_S_d0_1_2 h_S_) main_v11 main_c_3
  let main_v13 : IVec S_ 1 := andi main_v8 main_v12
  main_v13
-- ==== Kernel.lean ====
abbrev S256 : Shape := ⟨1, ![256]⟩
abbrev S8192x256x2 : Shape := ⟨3, ![8192, 256, 2]⟩
abbrev S8192x2x256 : Shape := ⟨3, ![8192, 2, 256]⟩
abbrev S8192x2x2x128 : Shape := ⟨4, ![8192, 2, 2, 128]⟩
abbrev S32768x128 : Shape := ⟨2, ![32768, 128]⟩
abbrev S1x256 : Shape := ⟨2, ![1, 256]⟩
abbrev S4x2048 : Shape := ⟨2, ![4, 2048]⟩
abbrev S1x1 : Shape := ⟨2, ![1, 1]⟩
abbrev S8192x128 : Shape := ⟨2, ![8192, 128]⟩
abbrev S1x8192 : Shape := ⟨2, ![1, 8192]⟩
abbrev S4x8192 : Shape := ⟨2, ![4, 8192]⟩
abbrev S4x128 : Shape := ⟨2, ![4, 128]⟩
abbrev S2 : Shape := ⟨1, ![2]⟩
abbrev S1x128 : Shape := ⟨2, ![1, 128]⟩
abbrev S1 : Shape := ⟨1, ![1]⟩
abbrev S8192 : Shape := ⟨1, ![8192]⟩
abbrev S1x1x8192 : Shape := ⟨3, ![1, 1, 8192]⟩
abbrev S1x1x1 : Shape := ⟨3, ![1, 1, 1]⟩
abbrev S4x2048x4 : Shape := ⟨3, ![4, 2048, 4]⟩
abbrev S1x1x256 : Shape := ⟨3, ![1, 1, 256]⟩
abbrev S_ : Shape := ⟨0, ![]⟩

abbrev nBuf : Space → Nat
  | .hbm => 15
  | .vmem => 11
  | .smem => 1
  | _ => 0

abbrev bufTy : (tb : Table) → Fin (tcTables nBuf tb) → BufTy
  | .hbm, ⟨0, _⟩ => ⟨S256, .f32⟩
  | .hbm, ⟨1, _⟩ => ⟨S256, .f32⟩
  | .hbm, ⟨2, _⟩ => ⟨S8192x256x2, .f32⟩
  | .hbm, ⟨3, _⟩ => ⟨S8192x2x256, .f32⟩
  | .hbm, ⟨4, _⟩ => ⟨S8192x2x2x128, .f32⟩
  | .hbm, ⟨5, _⟩ => ⟨S8192x2x2x128, .f32⟩
  | .hbm, ⟨6, _⟩ => ⟨S32768x128, .f32⟩
  | .hbm, ⟨7, _⟩ => ⟨S1x256, .f32⟩
  | .hbm, ⟨8, _⟩ => ⟨S1x256, .f32⟩
  | .hbm, ⟨9, _⟩ => ⟨S4x2048, .f32⟩
  | .hbm, ⟨10, _⟩ => ⟨S1x256, .f32⟩
  | .hbm, ⟨11, _⟩ => ⟨S1x1, .f32⟩
  | .hbm, ⟨12, _⟩ => ⟨S256, .f32⟩
  | .hbm, ⟨13, _⟩ => ⟨S_, .f32⟩
  | .hbm, ⟨14, _⟩ => ⟨S8192, .f32⟩
  | .local _ .vmem, ⟨0, _⟩ => ⟨S1x256, .f32⟩
  | .local _ .vmem, ⟨1, _⟩ => ⟨S1x256, .f32⟩
  | .local _ .vmem, ⟨2, _⟩ => ⟨S8192x128, .f32⟩
  | .local _ .vmem, ⟨3, _⟩ => ⟨S8192x128, .f32⟩
  | .local _ .vmem, ⟨4, _⟩ => ⟨S4x2048, .f32⟩
  | .local _ .vmem, ⟨5, _⟩ => ⟨S1x256, .f32⟩
  | .local _ .vmem, ⟨6, _⟩ => ⟨S1x1, .f32⟩
  | .local _ .vmem, ⟨7, _⟩ => ⟨S8192x128, .f32⟩
  | .local _ .vmem, ⟨8, _⟩ => ⟨S1x8192, .f32⟩
  | .local _ .vmem, ⟨9, _⟩ => ⟨S4x8192, .f32⟩
  | .local _ .vmem, ⟨10, _⟩ => ⟨S4x128, .f32⟩
  | .local _ .smem, ⟨0, _⟩ => ⟨S2, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v16 : Index := Scalar.indexCast arg0
  let c0_6 : Index := 0#32
  ![v16.toNat, 0]
def k0_cond2 (i : grid0.Coords) : BitVec 1 :=
  let arg0 : BitVec 32 := BitVec.ofNat 32 (i 0).val
  let c3_i32_20 : BitVec 32 := 3#32
  let v64 : BitVec 1 := Scalar.cmpi .eq arg0 c3_i32_20
  let v65 : BitVec 32 := Scalar.extui v64
  let c0_i32_21 : BitVec 32 := 0#32
  let v66 : BitVec 1 := Scalar.cmpi .ne v65 c0_i32_21
  v66

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256 : Shape := ⟨1, ![256]⟩
abbrev S8192x256x2 : Shape := ⟨3, ![8192, 256, 2]⟩
abbrev S8192x256x1 : Shape := ⟨3, ![8192, 256, 1]⟩
abbrev S8192x256 : Shape := ⟨2, ![8192, 256]⟩
abbrev S1x256 : Shape := ⟨2, ![1, 256]⟩
abbrev S_ : Shape := ⟨0, ![]⟩
abbrev S8192 : Shape := ⟨1, ![8192]⟩
abbrev S1 : Shape := ⟨1, ![1]⟩

abbrev nBuf : Space → Nat
  | .hbm => 45
  | .vmem => 0
  | .smem => 0
  | _ => 0

abbrev bufTy : (tb : Table) → Fin (tcTables nBuf tb) → BufTy
  | .hbm, ⟨0, _⟩ => ⟨S256, .f32⟩
  | .hbm, ⟨1, _⟩ => ⟨S256, .f32⟩
  | .hbm, ⟨2, _⟩ => ⟨S8192x256x2, .f32⟩
  | .hbm, ⟨3, _⟩ => ⟨S8192x256x1, .f32⟩
  | .hbm, ⟨4, _⟩ => ⟨S8192x256, .f32⟩
  | .hbm, ⟨5, _⟩ => ⟨S8192x256x1, .f32⟩
  | .hbm, ⟨6, _⟩ => ⟨S8192x256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S8192, .f32⟩
  | .hbm, ⟨31, _⟩ => ⟨S8192, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Setup.lean ====
/- What the runs of the kernel's body are stated over: when its two conditionals are taken, the staging buffers and the
   scratch buffers by name, and the launch's invariant with the scratch buffers listed. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The two conditionals of the body -/

/-- The body's first conditional: the grid point is the first one, where the scratch buffers are set up. -/
abbrev isFirst (i : grid0.Coords) : Prop :=
  (Scalar.cmpi .ne (Scalar.extui (Scalar.cmpi .eq (BitVec.ofNat 32 (i 0).val) 0#32)) 0#32) = 1#1

/-- The body's second conditional: the grid point is the last one, where the outputs are stored. -/
abbrev isLast (i : grid0.Coords) : Prop := k0_cond2 i = 1#1

theorem isFirst_iff (t : Fin grid0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have key : isFirst (grid0.coords t) ↔ t.val % 4 = 0 := by
    simp only [isFirst, e0]
    word_cmp
  rw [key]; omega

theorem isLast_iff (t : Fin grid0.N) : isLast (grid0.coords t) ↔ t.val = 3 := by
  have ht : t.val < 4 := Nat.lt_of_lt_of_eq t.isLt N_0
  have e0 : (grid0.coords t 0).val = t.val / 1 % 4 := Pipeline.Grid.coords_val t 0 (by decide) rfl
  have key : isLast (grid0.coords t) ↔ t.val % 4 = 3 := by
    simp only [isLast, k0_cond2, e0]
    word_cmp
  rw [key]; omega

/-! ## The buffers -/

/-- The window staging buffers the body is handed at point `t`. -/
abbrev stMu (t : Fin cfg0.N) : Memref sig .tc .vmem S1x256 .f32 := win0_0.stage (cfg0.slots t 0)
abbrev stSig (t : Fin cfg0.N) : Memref sig .tc .vmem S1x256 .f32 := win0_1.stage (cfg0.slots t 1)
abbrev stX (t : Fin cfg0.N) : Memref sig .tc .vmem S8192x128 .f32 := win0_2.stage (cfg0.slots t 2)
abbrev stDists (t : Fin cfg0.N) : Memref sig .tc .vmem S4x2048 .f32 := win0_3.stage (cfg0.slots t 3)
abbrev stY (t : Fin cfg0.N) : Memref sig .tc .vmem S1x256 .f32 := win0_4.stage (cfg0.slots t 4)
abbrev stLoss (t : Fin cfg0.N) : Memref sig .tc .vmem S1x1 .f32 := win0_5.stage (cfg0.slots t 5)

/-- The scratch buffers: the query's rows, the mask, the rows of distances, the weighted sums, and the running maximum
    with the running sum of weights. -/
abbrev scQb : Memref sig .tc .vmem S8192x128 .f32 := Memref.whole cc0_scratch0
abbrev scMi : Memref sig .tc .vmem S1x8192 .f32 := Memref.whole cc0_scratch1
abbrev scDsp : Memref sig .tc .vmem S4x8192 .f32 := Memref.whole cc0_scratch2
abbrev scAcc : Memref sig .tc .vmem S4x128 .f32 := Memref.whole cc0_scratch3
abbrev scSm : Memref sig .tc .smem S2 .f32 := Memref.whole cc0_scratch4

/-- What the launch hands the region: each scratch buffer at some contents, and the generator's register. -/
theorem PhiA_eq (c : Dev nD) :
    (Pipeline.ΦA spec0 c : sProp 𝕄)
      = iprop(iprop((∃ d, owns (c : Thread nD τ) scQb fullShare d) ∗ (∃ d, owns (c : Thread nD τ) scMi fullShare d)
          ∗ (∃ d, owns (c : Thread nD τ) scDsp fullShare d) ∗ (∃ d, owns (c : Thread nD τ) scAcc fullShare d)
          ∗ (∃ d, owns (c : Thread nD τ) scSm fullShare d)) ∗ (∃ r, prngReg c r)) := by
  unfold Pipeline.ΦA; rw [scopedRest0_eq]; simp only [scQb, scMi, scDsp, scAcc, scSm, owns_whole]; try rfl

end Cert.KernelIdeal.Hand

end
-- ==== Proof.State.lean ====
/- What one grid point of the kernel leaves in the scratch buffers, and what the last point stores in the outputs. -/
module

public import proofs.«01_k».proof.Proof.Setup
public import Idealize.ShloMosaic.Lib.VecWindow

@[expose] public section

noncomputable section

namespace Cert.KernelIdeal.Hand

open Idealize.ShloMosaic Idealize.ShloMosaic.TcCoe
open Cert.KernelIdeal.Gen

variable {F : FTy → Type} [FloatOps F]

/-- The scratch buffers' contents between two grid points. -/
structure St (F : FTy → Type) where
  qb : Vec F S8192x128 .f32
  mi : Vec F S1x8192 .f32
  dsp : Vec F S4x8192 .f32
  acc : Vec F S4x128 .f32
  mx : Elt F .f32
  sum : Elt F .f32

/-- The two scalars of the last scratch buffer as its contents. -/
def pairOf (a b : Elt F .f32) : Vec F S2 .f32 := fun j => if (j 0).val = 0 then a else b

/-- The rows of distances with the row of grid coordinate `i` replaced. -/
def putRow (i : grid0.Coords) (d : Vec F S4x8192 .f32) (row : Vec F S1x8192 .f32) : Vec F S4x8192 .f32 :=
  VecWindow.put (s := S4x8192) d (k0_off1 i) S1x8192.size row

/-- The scratch buffers as the first grid point sets them up; the rows of distances are not touched. -/
def St.init (mu sg : Vec F S1x256 .f32) (d : Vec F S4x8192 .f32) : St F where
  qb := k0_pay7 mu sg
  mi := k0_pay8 (F := F)
  dsp := d
  acc := k0_pay9 (F := F)
  mx := Scalar.ofBits .f32 0xFF800000#32
  sum := Scalar.ofBits .f32 0x00000000#32

/-- What a grid point makes of the scratch buffers when its block of states is `x`. -/
def St.step (i : grid0.Coords) (x : Vec F S8192x128 .f32) (s : St F) : St F where
  qb := s.qb
  mi := s.mi
  dsp := putRow i s.dsp (k0_pay12 x s.qb)
  acc := k0_pay3 (k0_pay10 x) (k0_pay13 x s.qb s.mi) (k0_pay15 x s.qb s.mi s.mx) (k0_pay16 x s.qb s.mi s.mx) s.acc
  mx := k0_pay14 x s.qb s.mi s.mx
  sum := k0_pay2 (k0_pay13 x s.qb s.mi) (k0_pay15 x s.qb s.mi s.mx) (k0_pay16 x s.qb s.mi s.mx) s.sum

end Cert.KernelIdeal.Hand

end
-- ==== Proof.Loads.lean ====
/- Loads and stores of whole buffers, of one row and of the two scalars, by the values they read and leave. -/
module

public import proofs.«01_k».proof.Proof.State
public import Idealize.ShloMosaic.Lib.VecWindow

@[expose] public section

noncomputable section

namespace Cert.KernelIdeal.Hand

open Idealize.ShloMosaic Idealize.ShloMosaic.TcCoe
open Cert.KernelIdeal.Gen

section Whole
variable {Val : EltTy → Type} {κ : Kind} {sp : Space} {S : Shape} {e : EltTy}

/-- A load of a whole buffer reads the buffer. -/
theorem load_whole (v : View sig κ sp S e) (f : v.ty.Contents Val) {off : Fin S.rank → ℕ} (inb : ∀ a, off a + S.size a ≤ S.size a) :
    v.readAt Val (Rect.unit off (no_index S.size) inb).toLoadRect f = v.read Val f :=
  View.readAt_full v f inb

/-- A buffer stored whole holds what was stored. -/
theorem read_store_whole (v : View sig κ sp S e) (f : v.ty.Contents Val) {off : Fin S.rank → ℕ} (inb : ∀ a, off a + S.size a ≤ S.size a)
    (w : S.Idx → Val e) (L : List (View.Piece Val S e)) :
    v.read Val (v.writes Val f ((⟨Rect.unit off (no_index S.size) inb, w⟩ : View.Piece Val S e) :: L)) = w :=
  View.read_writes_full v f inb w L

/-- A load of a whole buffer, after it was stored whole, reads what was stored. -/
theorem load_store_whole [∀ e, Nonempty (Val e)] (v : View sig κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

end Whole

variable {F : FTy → Type} [FloatOps F]

/-- The rows of distances after one row is stored. -/
theorem read_store_row {κ : Kind} {sp : Space} (v : View sig κ sp S4x8192 .f32) (f : v.ty.Contents (Elt F)) (i : grid0.Coords)
    (inb : ∀ a, (![BitVec.toNat (Scalar.indexCast (BitVec.ofNat 32 (i 0).val)), 0] : Fin 2 → ℕ) a + (![1, 8192] : Fin 2 → ℕ) a ≤ S4x8192.size a)
    (row : S1x8192.Idx → Elt F .f32) :
    v.read (Elt F) (v.writes (Elt F) f [(⟨Rect.unit (s := S4x8192) ![BitVec.toNat (Scalar.indexCast (BitVec.ofNat 32 (i 0).val)), 0] ![1, 8192] inb, row⟩ :
        View.Piece (Elt F) S4x8192 .f32)])
      = putRow i (v.read (Elt F) f) row :=
  View.read_writes_cons_put v f inb row [] rfl

/-- The two scalars' load at the first place, -/
theorem load_fst {κ : Kind} {sp : Space} (v : View sig κ sp S2 .f32) (f : v.ty.Contents (Elt F))
    (inb : ∀ a, (![0] : Fin 1 → ℕ) a + (![1] : Fin 1 → ℕ) a ≤ S2.size a) (h) (a b : Elt F .f32) (hf : v.read (Elt F) f = pairOf a b) :
    v.readAt (Elt F) (Rect.unit (s := S2) ![0] ![1] inb).toLoadRect f (Shape.Idx.first h) = a := by
  rw [View.readAt_apply, hf]; rfl

/-- and at the second. -/
theorem load_snd {κ : Kind} {sp : Space} (v : View sig κ sp S2 .f32) (f : v.ty.Contents (Elt F))
    (inb : ∀ a, (![1] : Fin 1 → ℕ) a + (![1] : Fin 1 → ℕ) a ≤ S2.size a) (h) (a b : Elt F .f32) (hf : v.read (Elt F) f = pairOf a b) :
    v.readAt (Elt F) (Rect.unit (s := S2) ![1] ![1] inb).toLoadRect f (Shape.Idx.first h) = b := by
  rw [View.readAt_apply, hf]; rfl

/-- The two scalars after the first and then the second is stored. -/
theorem read_store_pair {κ : Kind} {sp : Space} (v : View sig κ sp S2 .f32) (f : v.ty.Contents (Elt F))
    (inb0 : ∀ a, (![0] : Fin 1 → ℕ) a + (![1] : Fin 1 → ℕ) a ≤ S2.size a)
    (inb1 : ∀ a, (![1] : Fin 1 → ℕ) a + (![1] : Fin 1 → ℕ) a ≤ S2.size a) (a b : Elt F .f32) (L : List (View.Piece (Elt F) S2 .f32)) :
    v.read (Elt F) (v.writes (Elt F) f ((⟨Rect.unit (s := S2) ![1] ![1] inb1, fun _ => b⟩ : View.Piece (Elt F) S2 .f32)
        :: (⟨Rect.unit (s := S2) ![0] ![1] inb0, fun _ => a⟩ : View.Piece (Elt F) S2 .f32) :: L)) = pairOf a b := by
  funext y
  by_cases hy : (y 0).val = 0
  · rw [View.read_writes_cons_unit_of_not_mem v f inb1 _ _ y rfl 0 (Or.inl (by show (y 0).val < 1; omega)),
      View.read_writes_cons_unit_of_mem v f inb0 _ _ y (fun a => ⟨0, by fin_cases a; exact Nat.one_pos⟩) rfl (fun a => by fin_cases a; exact hy)]
    exact (if_pos hy).symm
  · have h1 : (y 0).val = 1 := by have : (y 0).val < 2 := (y 0).isLt; omega
    rw [View.read_writes_cons_unit_of_mem v f inb1 _ _ y (fun a => ⟨0, by fin_cases a; exact Nat.one_pos⟩) rfl (fun a => by fin_cases a; exact h1)]
    exact (if_neg hy).symm

end Cert.KernelIdeal.Hand

end
-- ==== Proof.RunFirst.lean ====
/- The body at the first grid point. -/
module

public import proofs.«01_k».proof.Proof.Loads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 1600000 in
/-- The first point: whatever the scratch buffers held, they are set up and then take one step. -/
theorem run_first (c : Dev nD) (i : grid0.Coords) (arg1 : Memref sig .tc .vmem S1x256 .f32) (harg1 : arg1.IsWhole) (arg2 : Memref sig .tc .vmem S1x256 .f32) (harg2 : arg2.IsWhole) (arg3 : Memref sig .tc .vmem S8192x128 .f32) (harg3 : arg3.IsWhole) (arg4 : Memref sig .tc .vmem S4x2048 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S8192x128 .f32) (harg7 : arg7.IsWhole) (arg8 : Memref sig .tc .vmem S1x8192 .f32) (harg8 : arg8.IsWhole) (arg9 : Memref sig .tc .vmem S4x8192 .f32) (harg9 : arg9.IsWhole) (arg10 : Memref sig .tc .vmem S4x128 .f32) (harg10 : arg10.IsWhole) (arg11 : Memref sig .tc .smem S2 .f32) (harg11 : arg11.IsWhole)
    (hc0 : isFirst i) (hc1 : ¬isLast i) (mu sg : Vec F S1x256 .f32) (x : Vec F S8192x128 .f32) (d : Vec F S4x8192 .f32) (E : Set ℕ) (K : PUnit → sProp 𝕄) :
    iprop(owns (c : Thread nD τ) arg1 fullShare mu ∗ owns (c : Thread nD τ) arg2 fullShare sg ∗ owns (c : Thread nD τ) arg3 fullShare x
        ∗ (∃ d, owns (c : Thread nD τ) arg7 fullShare d) ∗ (∃ d, owns (c : Thread nD τ) arg8 fullShare d) ∗ owns (c : Thread nD τ) arg9 fullShare d
        ∗ (∃ d, owns (c : Thread nD τ) arg10 fullShare d) ∗ (∃ d, owns (c : Thread nD τ) arg11 fullShare d)
        ∗ (iprop(owns (c : Thread nD τ) arg1 fullShare mu ∗ owns (c : Thread nD τ) arg2 fullShare sg ∗ owns (c : Thread nD τ) arg3 fullShare x
            ∗ owns (c : Thread nD τ) arg7 fullShare ((St.init mu sg d).step i x).qb ∗ owns (c : Thread nD τ) arg8 fullShare ((St.init mu sg d).step i x).mi
            ∗ owns (c : Thread nD τ) arg9 fullShare ((St.init mu sg d).step i x).dsp ∗ owns (c : Thread nD τ) arg10 fullShare ((St.init mu sg d).step i x).acc
            ∗ owns (c : Thread nD τ) arg11 fullShare (pairOf ((St.init mu sg d).step i x).mx ((St.init mu sg d).step i x).sum)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part2_eq_skeleton, k0_part1_eq_skeleton]
  unfold owns
  iintro ⟨⟨%f0, %hf0, H0⟩, ⟨%f1, %hf1, H1⟩, ⟨%f2, %hf2, H2⟩, ⟨%e0, %fs0, -, HS0⟩, ⟨%e1, %fs1, -, HS1⟩, ⟨%fs2, %hfs2, HS2⟩, ⟨%e3, %fs3, -, HS3⟩, ⟨%e4, %fs4, -, HS4⟩, Hk⟩
  obtain rfl := harg1.eq_unread hf0; obtain rfl := harg2.eq_unread hf1; obtain rfl := harg3.eq_unread hf2
  obtain rfl := harg9.eq_unread hfs2
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [HS0]
  · iexists _; isplitr; swap; · iexact HS0
    ipureintro; sl_unfold_words
    simp only [load_whole, read_store_whole, load_store_whole, read_store_pair, harg1.read_unread, harg2.read_unread, harg3.read_unread, harg9.read_unread, St.step, St.init]
    try rfl
  isplitl [HS1]
  · iexists _; isplitr; swap; · iexact HS1
    ipureintro; sl_unfold_words
    simp only [load_whole, read_store_whole, load_store_whole, read_store_pair, harg1.read_unread, harg2.read_unread, harg3.read_unread, harg9.read_unread, St.step, St.init]
    try rfl
  isplitl [HS2]
  · iexists _; isplitr; swap; · iexact HS2
    ipureintro; sl_unfold_words
    simp only [load_whole, read_store_whole, load_store_whole, read_store_pair, harg1.read_unread, harg2.read_unread, harg3.read_unread, harg9.read_unread, St.step, St.init]
    exact (read_store_row _ _ i _ _).trans (by rw [harg9.read_unread]; rfl)
  isplitl [HS3]
  · iexists _; isplitr; swap; · iexact HS3
    ipureintro; sl_unfold_words
    simp only [load_whole, read_store_whole, load_store_whole, read_store_pair, harg1.read_unread, harg2.read_unread, harg3.read_unread, harg9.read_unread, St.step, St.init]
    try rfl
  iexists _; isplitr; swap; · iexact HS4
  ipureintro; sl_unfold_words
  simp only [load_whole, read_store_whole, load_store_whole, read_store_pair, harg1.read_unread, harg2.read_unread, harg3.read_unread, harg9.read_unread, St.step, St.init]
  rfl

end Cert.KernelIdeal.Hand

end
-- ==== Proof.RunMid.lean ====
/- The body at a grid point between the first and the last. -/
module

public import proofs.«01_k».proof.Proof.Loads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 1600000 in
/-- A point between the first and the last: the scratch buffers take one step. -/
theorem run_mid (c : Dev nD) (i : grid0.Coords) (arg1 : Memref sig .tc .vmem S1x256 .f32) (harg1 : arg1.IsWhole) (arg2 : Memref sig .tc .vmem S1x256 .f32) (harg2 : arg2.IsWhole) (arg3 : Memref sig .tc .vmem S8192x128 .f32) (harg3 : arg3.IsWhole) (arg4 : Memref sig .tc .vmem S4x2048 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S8192x128 .f32) (harg7 : arg7.IsWhole) (arg8 : Memref sig .tc .vmem S1x8192 .f32) (harg8 : arg8.IsWhole) (arg9 : Memref sig .tc .vmem S4x8192 .f32) (harg9 : arg9.IsWhole) (arg10 : Memref sig .tc .vmem S4x128 .f32) (harg10 : arg10.IsWhole) (arg11 : Memref sig .tc .smem S2 .f32) (harg11 : arg11.IsWhole)
    (hc0 : ¬isFirst i) (hc1 : ¬isLast i) (mu sg : Vec F S1x256 .f32) (x : Vec F S8192x128 .f32) (s : St F) (E : Set ℕ) (K : PUnit → sProp 𝕄) :
    iprop(owns (c : Thread nD τ) arg1 fullShare mu ∗ owns (c : Thread nD τ) arg2 fullShare sg ∗ owns (c : Thread nD τ) arg3 fullShare x
        ∗ owns (c : Thread nD τ) arg7 fullShare s.qb ∗ owns (c : Thread nD τ) arg8 fullShare s.mi ∗ owns (c : Thread nD τ) arg9 fullShare s.dsp
        ∗ owns (c : Thread nD τ) arg10 fullShare s.acc ∗ owns (c : Thread nD τ) arg11 fullShare (pairOf s.mx s.sum)
        ∗ (iprop(owns (c : Thread nD τ) arg1 fullShare mu ∗ owns (c : Thread nD τ) arg2 fullShare sg ∗ owns (c : Thread nD τ) arg3 fullShare x
            ∗ owns (c : Thread nD τ) arg7 fullShare (s.step i x).qb ∗ owns (c : Thread nD τ) arg8 fullShare (s.step i x).mi
            ∗ owns (c : Thread nD τ) arg9 fullShare (s.step i x).dsp ∗ owns (c : Thread nD τ) arg10 fullShare (s.step i x).acc
            ∗ owns (c : Thread nD τ) arg11 fullShare (pairOf (s.step i x).mx (s.step i x).sum)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg1.eq_unread hf0; obtain rfl := harg2.eq_unread hf1; obtain rfl := harg3.eq_unread hf2
  obtain rfl := harg7.eq_unread hfs0; obtain rfl := harg8.eq_unread hfs1; obtain rfl := harg9.eq_unread hfs2
  obtain rfl := harg10.eq_unread hfs3; obtain rfl := harg11.eq_unread hfs4
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [HS0]
  · iexists _; isplitr; swap; · iexact HS0
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [HS1]
  · iexists _; isplitr; swap; · iexact HS1
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [HS2]
  · iexists _; isplitr; swap; · iexact HS2
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
    exact (read_store_row _ _ i _ _).trans (by rw [harg9.read_unread])
  isplitl [HS3]
  · iexists _; isplitr; swap; · iexact HS3
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  iexists _; isplitr; swap; · iexact HS4
  ipureintro; sl_unfold_words
  simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]

end Cert.KernelIdeal.Hand

end
-- ==== Proof.RunLast.lean ====
/- The body at the last grid point. -/
module

public import proofs.«01_k».proof.Proof.Loads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 1600000 in
/-- The last point: the scratch buffers take one step, and the outputs are stored from what they then hold. -/
theorem run_last (c : Dev nD) (i : grid0.Coords) (arg1 : Memref sig .tc .vmem S1x256 .f32) (harg1 : arg1.IsWhole) (arg2 : Memref sig .tc .vmem S1x256 .f32) (harg2 : arg2.IsWhole) (arg3 : Memref sig .tc .vmem S8192x128 .f32) (harg3 : arg3.IsWhole) (arg4 : Memref sig .tc .vmem S4x2048 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S8192x128 .f32) (harg7 : arg7.IsWhole) (arg8 : Memref sig .tc .vmem S1x8192 .f32) (harg8 : arg8.IsWhole) (arg9 : Memref sig .tc .vmem S4x8192 .f32) (harg9 : arg9.IsWhole) (arg10 : Memref sig .tc .vmem S4x128 .f32) (harg10 : arg10.IsWhole) (arg11 : Memref sig .tc .smem S2 .f32) (harg11 : arg11.IsWhole)
    (hc0 : ¬isFirst i) (hc1 : isLast i) (mu sg : Vec F S1x256 .f32) (x : Vec F S8192x128 .f32) (s : St F) (E : Set ℕ) (K : PUnit → sProp 𝕄) :
    iprop(owns (c : Thread nD τ) arg1 fullShare mu ∗ owns (c : Thread nD τ) arg2 fullShare sg ∗ owns (c : Thread nD τ) arg3 fullShare x
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s.qb ∗ owns (c : Thread nD τ) arg8 fullShare s.mi ∗ owns (c : Thread nD τ) arg9 fullShare s.dsp
        ∗ owns (c : Thread nD τ) arg10 fullShare s.acc ∗ owns (c : Thread nD τ) arg11 fullShare (pairOf s.mx s.sum)
        ∗ (iprop(owns (c : Thread nD τ) arg1 fullShare mu ∗ owns (c : Thread nD τ) arg2 fullShare sg ∗ owns (c : Thread nD τ) arg3 fullShare x
            ∗ owns (c : Thread nD τ) arg4 fullShare (k0_pay4 (s.step i x).dsp) ∗ owns (c : Thread nD τ) arg5 fullShare (k0_pay5 (s.step i x).acc (s.step i x).sum)
            ∗ owns (c : Thread nD τ) arg6 fullShare (k0_pay6 (s.step i x).acc (s.step i x).sum mu)
            ∗ owns (c : Thread nD τ) arg7 fullShare (s.step i x).qb ∗ owns (c : Thread nD τ) arg8 fullShare (s.step i x).mi
            ∗ owns (c : Thread nD τ) arg9 fullShare (s.step i x).dsp ∗ owns (c : Thread nD τ) arg10 fullShare (s.step i x).acc
            ∗ owns (c : Thread nD τ) arg11 fullShare (pairOf (s.step i x).mx (s.step i x).sum)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg1.eq_unread hf0; obtain rfl := harg2.eq_unread hf1; obtain rfl := harg3.eq_unread hf2
  obtain rfl := harg7.eq_unread hfs0; obtain rfl := harg8.eq_unread hfs1; obtain rfl := harg9.eq_unread hfs2
  obtain rfl := harg10.eq_unread hfs3; obtain rfl := harg11.eq_unread hfs4
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
    exact congrArg k0_pay4 ((read_store_row _ _ i _ _).trans (by rw [harg9.read_unread]))
  isplitl [H4]
  · iexists _; isplitr; swap; · iexact H4
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [H5]
  · iexists _; isplitr; swap; · iexact H5
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [HS0]
  · iexists _; isplitr; swap; · iexact HS0
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [HS1]
  · iexists _; isplitr; swap; · iexact HS1
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  isplitl [HS2]
  · iexists _; isplitr; swap; · iexact HS2
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
    exact (read_store_row _ _ i _ _).trans (by rw [harg9.read_unread])
  isplitl [HS3]
  · iexists _; isplitr; swap; · iexact HS3
    ipureintro; sl_unfold_words
    simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]
  iexists _; isplitr; swap; · iexact HS4
  ipureintro; sl_unfold_words
  simp only [load_whole, read_store_whole, load_store_whole, read_store_pair, harg1.read_unread, harg2.read_unread, harg3.read_unread, harg7.read_unread, harg8.read_unread, harg9.read_unread, harg10.read_unread, harg11.read_unread,
      load_fst _ _ _ _ _ _ (harg11.read_unread _), load_snd _ _ _ _ _ _ (harg11.read_unread _), St.step]

end Cert.KernelIdeal.Hand

end
-- ==== Proof.Points.lean ====
/- The scratch buffers after each number of grid points, and the proof data of the pipeline stated over them. -/
module

public import proofs.«01_k».proof.Proof.State

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The query's two rows and the block of states a grid point is handed. -/
def muBlk (c : Dev nD) (t : Fin cfg0.N) : Vec F S1x256 .f32 := iblk m c 0 t
def sgBlk (c : Dev nD) (t : Fin cfg0.N) : Vec F S1x256 .f32 := iblk m c 1 t
def xBlk (c : Dev nD) (t : Fin cfg0.N) : Vec F S8192x128 .f32 := iblk m c 2 t

theorem N_pos : 0 < cfg0.N := by rw [show cfg0.N = 4 from N_0]; decide

/-- The scratch buffers after `n` grid points, when the rows of distances held `d` at the start. -/
def stAt (c : Dev nD) (d : Vec F S4x8192 .f32) : (n : ℕ) → n ≤ cfg0.N → St F
  | 0, _ => St.init (muBlk m c ⟨0, N_pos⟩) (sgBlk m c ⟨0, N_pos⟩) d
  | n + 1, h => (stAt c d n (Nat.le_of_succ_le h)).step (grid0.coords ⟨n, h⟩) (xBlk m c ⟨n, h⟩)

theorem stAt_succ (c : Dev nD) (d : Vec F S4x8192 .f32) (n : ℕ) (h : n < cfg0.N) :
    stAt m c d (n + 1) h = (stAt m c d n (Nat.le_of_lt h)).step (grid0.coords ⟨n, h⟩) (xBlk m c ⟨n, h⟩) := rfl

/-- Contents for the rows of distances at the start that stand for any: the kernel reads none of them. -/
def anyRows : Vec F S4x8192 .f32 := fun _ => Scalar.ofBits .f32 0x00000000#32

/-- What the outputs' staging buffers hold after a point that stores them. -/
def outDists (c : Dev nD) (t : Fin cfg0.N) : Vec F S4x2048 .f32 := k0_pay4 (stAt m c anyRows (t.val + 1) t.isLt).dsp
def outY (c : Dev nD) (t : Fin cfg0.N) : Vec F S1x256 .f32 :=
  k0_pay5 (stAt m c anyRows (t.val + 1) t.isLt).acc (stAt m c anyRows (t.val + 1) t.isLt).sum
def outLoss (c : Dev nD) (t : Fin cfg0.N) : Vec F S1x1 .f32 :=
  k0_pay6 (stAt m c anyRows (t.val + 1) t.isLt).acc (stAt m c anyRows (t.val + 1) t.isLt).sum (muBlk m c t)

/-! ## What the rows of distances held at the start does not matter -/

/-- The other scratch buffers do not depend on it, -/
theorem stAt_any (c : Dev nD) (d d' : Vec F S4x8192 .f32) : ∀ (n : ℕ) (h : n ≤ cfg0.N),
    (stAt m c d n h).qb = (stAt m c d' n h).qb ∧ (stAt m c d n h).mi = (stAt m c d' n h).mi
      ∧ (stAt m c d n h).acc = (stAt m c d' n h).acc ∧ (stAt m c d n h).mx = (stAt m c d' n h).mx
      ∧ (stAt m c d n h).sum = (stAt m c d' n h).sum
  | 0, _ => ⟨rfl, rfl, rfl, rfl, rfl⟩
  | n + 1, h => by
    obtain ⟨h1, h2, h3, h4, h5⟩ := stAt_any c d d' n (Nat.le_of_succ_le h)
    rw [stAt_succ m c d n h, stAt_succ m c d' n h]
    simp only [St.step]
    rw [h1, h2, h3, h4, h5]
    exact ⟨rfl, rfl, rfl, rfl, rfl⟩

/-- the query's rows and the mask stay as set up, -/
theorem stAt_qb (c : Dev nD) (d : Vec F S4x8192 .f32) : ∀ (n : ℕ) (h : n ≤ cfg0.N),
    (stAt m c d n h).qb = k0_pay7 (muBlk m c ⟨0, N_pos⟩) (sgBlk m c ⟨0, N_pos⟩) ∧ (stAt m c d n h).mi = k0_pay8 (F := F)
  | 0, _ => ⟨rfl, rfl⟩
  | n + 1, h => by rw [stAt_succ m c d n h]; exact stAt_qb c d n (Nat.le_of_succ_le h)

/-- The grid coordinate of a point as a number. -/
theorem coord_val (t : Fin grid0.N) : BitVec.toNat (Scalar.indexCast (BitVec.ofNat 32 (grid0.coords t 0).val)) = t.val := by
  have ht : t.val < 4 := Nat.lt_of_lt_of_eq t.isLt N_0
  have e0 : (grid0.coords t 0).val = t.val / 1 % 4 := Pipeline.Grid.coords_val t 0 (by decide) rfl
  rw [e0]
  show (BitVec.ofNat 32 (t.val / 1 % 4)).toNat = t.val
  rw [BitVec.toNat_ofNat]; omega

/-- A row put at a point, read at an index. -/
theorem putRow_apply (t : Fin grid0.N) (d : Vec F S4x8192 .f32) (row : Vec F S1x8192 .f32) (y : S4x8192.Idx) :
    putRow (grid0.coords t) d row y = if (y 0).val = t.val then row (Fin.cons ⟨0, Nat.one_pos⟩ (Fin.cons (y 1) finZeroElim)) else d y := by
  unfold putRow VecWindow.put
  have hoff0 : k0_off1 (grid0.coords t) 0 = t.val := coord_val t
  have hoff1 : k0_off1 (grid0.coords t) 1 = 0 := rfl
  have hs0 : S1x8192.size 0 = 1 := rfl
  have hs1 : S1x8192.size 1 = 8192 := rfl
  have hy1 : (y 1).val < 8192 := (y 1).isLt
  by_cases hy : (y 0).val = t.val
  · have hm : ∀ a : Fin 2, k0_off1 (grid0.coords t) a ≤ (y a).val ∧ (y a).val < k0_off1 (grid0.coords t) a + S1x8192.size a := by
      intro a; fin_cases a
      · exact ⟨by show k0_off1 (grid0.coords t) 0 ≤ (y 0).val; omega, by show (y 0).val < k0_off1 (grid0.coords t) 0 + S1x8192.size 0; omega⟩
      · exact ⟨by show k0_off1 (grid0.coords t) 1 ≤ (y 1).val; omega, by show (y 1).val < k0_off1 (grid0.coords t) 1 + S1x8192.size 1; omega⟩
    rw [if_pos hy]
    refine (dif_pos hm).trans (congrArg row (funext fun a => Fin.ext ?_))
    fin_cases a
    · show (y 0).val - k0_off1 (grid0.coords t) 0 = 0; omega
    · show (y 1).val - k0_off1 (grid0.coords t) 1 = (y 1).val; omega
  · rw [if_neg hy]
    refine dif_neg fun hm => hy ?_
    have h0 := hm 0
    change k0_off1 (grid0.coords t) 0 ≤ (y 0).val ∧ (y 0).val < k0_off1 (grid0.coords t) 0 + S1x8192.size 0 at h0
    omega

/-- Each row of distances below the number of points done is the one its point stored. -/
theorem stAt_dsp (c : Dev nD) (d : Vec F S4x8192 .f32) (y : S4x8192.Idx) : ∀ (n : ℕ) (h : n ≤ cfg0.N) (hy : (y 0).val < n),
    (stAt m c d n h).dsp y = k0_pay12 (xBlk m c ⟨(y 0).val, Nat.lt_of_lt_of_le hy h⟩)
      (k0_pay7 (muBlk m c ⟨0, N_pos⟩) (sgBlk m c ⟨0, N_pos⟩)) (Fin.cons ⟨0, Nat.one_pos⟩ (Fin.cons (y 1) finZeroElim))
  | 0, _, hy => absurd hy (Nat.not_lt_zero _)
  | n + 1, h, hy => by
    rw [stAt_succ m c d n h]
    show putRow _ (stAt m c d n _).dsp _ y = _
    rw [putRow_apply]
    by_cases e : (y 0).val = n
    · rw [if_pos e, (stAt_qb m c d n (Nat.le_of_succ_le h)).1]
      have e' : (⟨n, h⟩ : Fin cfg0.N) = ⟨(y 0).val, Nat.lt_of_lt_of_le hy h⟩ := Fin.ext e.symm
      rw [e']
    · rw [if_neg e]
      exact stAt_dsp c d y n (Nat.le_of_succ_le h) (by omega)

/-- All four rows are, once all points are done: nothing of the start is left. -/
theorem stAt_dsp_any (c : Dev nD) (d d' : Vec F S4x8192 .f32) (n : ℕ) (h : n ≤ cfg0.N) (hn : n = 4) :
    (stAt m c d n h).dsp = (stAt m c d' n h).dsp :=
  funext fun y => by
    have hy : (y 0).val < n := by subst hn; exact (y 0).isLt
    rw [stAt_dsp m c d y n h hy, stAt_dsp m c d' y n h hy]

/-! ## The pipeline's proof data -/

/-- The scratch buffers owned at a state. -/
def ownsSt (c : Dev nD) (s : St F) : sProp 𝕄 :=
  iprop(owns (c : Thread nD τ) scQb fullShare s.qb ∗ owns (c : Thread nD τ) scMi fullShare s.mi
    ∗ owns (c : Thread nD τ) scDsp fullShare s.dsp ∗ owns (c : Thread nD τ) scAcc fullShare s.acc
    ∗ owns (c : Thread nD τ) scSm fullShare (pairOf s.mx s.sum))

/-- The invariant before point `n`: at first the scratch buffers at anything, later at the state after `n` points. -/
def Inv (c : Dev nD) : (n : ℕ) → n ≤ cfg0.N → sProp 𝕄
  | 0, _ => Pipeline.ΦA spec0 c
  | n + 1, h => iprop((∃ d, ownsSt c (stAt m c d (n + 1) h)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (h : n < cfg0.N) :
    Inv m c (n + 1) h = iprop((∃ d, ownsSt c (stAt m c d (n + 1) h)) ∗ (∃ r, prngReg c r)) := rfl

theorem Inv_pos (c : Dev nD) (n : ℕ) (h : n ≤ cfg0.N) (hz : n ≠ 0) :
    Inv m c n h = iprop((∃ d, ownsSt c (stAt m c d n h)) ∗ (∃ r, prngReg c r)) := by
  cases n with
  | zero => exact absurd rfl hz
  | succ n => rfl

/-- The proof data of the pipeline: the arrays as the region finds them, the inputs' buffers at their blocks, the
    outputs' at what the last point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outDists m c t
    | ⟨4, _⟩ => outY m c t
    | ⟨5, _⟩ => outLoss m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outDists m c t := by dsimp only [dats]
theorem after_4 (c : Dev nD) (t : Fin cfg0.N) : (dats m 0 c).after 4 t = outY m c t := by dsimp only [dats]
theorem after_5 (c : Dev nD) (t : Fin cfg0.N) : (dats m 0 c).after 5 t = outLoss m c t := by dsimp only [dats]

/-- An input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

end Cert.KernelIdeal.Hand

end
-- ==== Proof.Body.lean ====
/- The body keeps the pipeline's proof data at every grid point. -/
module

public import proofs.«01_k».proof.Proof.RunFirst
public import proofs.«01_k».proof.Proof.RunMid
public import proofs.«01_k».proof.Proof.RunLast
public import proofs.«01_k».proof.Proof.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stMu t) fullShare ((dats m 0 c).before 0 t d))
    ∗ (∃ d, owns (c : Thread nD τ) (stSig t) fullShare ((dats m 0 c).before 1 t d))
    ∗ (∃ d, owns (c : Thread nD τ) (stX t) fullShare ((dats m 0 c).before 2 t d))
    ∗ (∃ d, owns (c : Thread nD τ) (stDists t) fullShare ((dats m 0 c).before 3 t d))
    ∗ (∃ d, owns (c : Thread nD τ) (stY t) fullShare ((dats m 0 c).before 4 t d))
    ∗ (∃ d, owns (c : Thread nD τ) (stLoss t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- An input's buffer is left at its block. -/
theorem leaves_0 (c : Dev nD) (t : Fin cfg0.N) :
    (dats m 0 c).leavesExact 0 t = owns (c : Thread nD τ) (stMu t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (stSig t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (stX t) fullShare (iblk m c 2 t) := by
  unfold Dat.leavesExact; rw [show cfg0.idle 2 (grid0.coords t) = false from rfl, after_2]

/-- An output's buffer is left alone before the last point, -/
theorem idle_out (t : Fin cfg0.N) (h : ¬isLast (grid0.coords t)) : (!(k0_cond2 (grid0.coords t) == 1#1)) = true := by
  rw [Bool.not_eq_true', beq_eq_false_iff_ne]; exact h
theorem leaves_3_idle (c : Dev nD) (t : Fin cfg0.N) (h : ¬isLast (grid0.coords t)) (ht : t.val ≠ 3) :
    (dats m 0 c).leavesExact 3 t = iprop(∃ d, owns (c : Thread nD τ) (stDists t) fullShare ((dats m 0 c).before 3 t d)) :=
  (dats m 0 c).leavesExact_idle 3 t (idle_out t h) (by
    have hN : t.val < 4 := lt_of_lt_of_eq t.isLt N_0
    rw [Bool.eq_false_iff]; intro hf; have := (flush0_3 t).mp hf; omega)
theorem leaves_4_idle (c : Dev nD) (t : Fin cfg0.N) (h : ¬isLast (grid0.coords t)) (ht : t.val ≠ 3) :
    (dats m 0 c).leavesExact 4 t = iprop(∃ d, owns (c : Thread nD τ) (stY t) fullShare ((dats m 0 c).before 4 t d)) :=
  (dats m 0 c).leavesExact_idle 4 t (idle_out t h) (by
    have hN : t.val < 4 := lt_of_lt_of_eq t.isLt N_0
    rw [Bool.eq_false_iff]; intro hf; have := (flush0_4 t).mp hf; omega)
theorem leaves_5_idle (c : Dev nD) (t : Fin cfg0.N) (h : ¬isLast (grid0.coords t)) (ht : t.val ≠ 3) :
    (dats m 0 c).leavesExact 5 t = iprop(∃ d, owns (c : Thread nD τ) (stLoss t) fullShare ((dats m 0 c).before 5 t d)) :=
  (dats m 0 c).leavesExact_idle 5 t (idle_out t h) (by
    have hN : t.val < 4 := lt_of_lt_of_eq t.isLt N_0
    rw [Bool.eq_false_iff]; intro hf; have := (flush0_5 t).mp hf; omega)

/-- and stored at the last. -/
theorem live_out (t : Fin cfg0.N) (h : isLast (grid0.coords t)) : (!(k0_cond2 (grid0.coords t) == 1#1)) = false := by
  rw [show k0_cond2 (grid0.coords t) = 1#1 from h]; rfl
theorem leaves_3_last (c : Dev nD) (t : Fin cfg0.N) (h : isLast (grid0.coords t)) :
    (dats m 0 c).leavesExact 3 t = owns (c : Thread nD τ) (stDists t) fullShare (outDists m c t) := by
  unfold Dat.leavesExact; rw [show cfg0.idle 3 (grid0.coords t) = false from live_out t h, after_3]
theorem leaves_4_last (c : Dev nD) (t : Fin cfg0.N) (h : isLast (grid0.coords t)) :
    (dats m 0 c).leavesExact 4 t = owns (c : Thread nD τ) (stY t) fullShare (outY m c t) := by
  unfold Dat.leavesExact; rw [show cfg0.idle 4 (grid0.coords t) = false from live_out t h, after_4]
theorem leaves_5_last (c : Dev nD) (t : Fin cfg0.N) (h : isLast (grid0.coords t)) :
    (dats m 0 c).leavesExact 5 t = owns (c : Thread nD τ) (stLoss t) fullShare (outLoss m c t) := by
  unfold Dat.leavesExact; rw [show cfg0.idle 5 (grid0.coords t) = false from live_out t h, after_5]

/-- At the last point what the rows of distances held at the start is forgotten. -/
theorem out_any (c : Dev nD) (d : Vec F S4x8192 .f32) (t : Fin cfg0.N) (h : t.val = 3) :
    outDists m c t = k0_pay4 (stAt m c d (t.val + 1) t.isLt).dsp
      ∧ outY m c t = k0_pay5 (stAt m c d (t.val + 1) t.isLt).acc (stAt m c d (t.val + 1) t.isLt).sum
      ∧ outLoss m c t = k0_pay6 (stAt m c d (t.val + 1) t.isLt).acc (stAt m c d (t.val + 1) t.isLt).sum (muBlk m c t) := by
  obtain ⟨-, -, h3, -, h5⟩ := stAt_any m c anyRows d (t.val + 1) t.isLt
  unfold outDists outY outLoss
  rw [h3, h5, stAt_dsp_any m c anyRows d (t.val + 1) t.isLt (by omega)]
  exact ⟨rfl, rfl, rfl⟩

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = Inv m c (t.val + 1) t.isLt from rfl, Inv_succ, leaves_0, leaves_1, leaves_2]
  by_cases hl : t.val = 3
  · have hnf : ¬isFirst (grid0.coords t) := fun h => by have := (isFirst_iff t).mp h; omega
    have hil : isLast (grid0.coords t) := (isLast_iff t).mpr hl
    rw [leaves_3_last m c t hil, leaves_4_last m c t hil, leaves_5_last m c t hil,
      Inv_castSucc m c t, Inv_pos m c _ _ (by omega)]
    unfold ownsSt
    iintro ⟨⟨⟨%d, HS0, HS1, HS2, HS3, HS4⟩, Hg⟩, Ho, ⟨%d0, H0⟩, ⟨%d1, H1⟩, ⟨%d2, H2⟩, ⟨%d3, H3⟩, ⟨%d4, H4⟩, ⟨%d5, H5⟩⟩
    rw [(out_any m c d t hl).1, (out_any m c d t hl).2.1, (out_any m c d t hl).2.2, stAt_succ m c d t.val t.isLt]
    iapply (run_last c (grid0.coords t) _ _ _ _ _ _ _ _ _ _ _ _ _ _ _ _ _ _ _ _ _ _ hnf hil (muBlk m c t) (sgBlk m c t) (xBlk m c t)
      (stAt m c d t.val (Nat.le_of_lt t.isLt)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · isplitl [HS0 HS1 HS2 HS3 HS4]
      · iexists d
        isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    iexact H5
  · have hnl : ¬isLast (grid0.coords t) := fun h => hl ((isLast_iff t).mp h)
    rw [leaves_3_idle m c t hnl hl, leaves_4_idle m c t hnl hl, leaves_5_idle m c t hnl hl, Inv_castSucc m c t]
    by_cases hz : t.val = 0
    · have hif : isFirst (grid0.coords t) := (isFirst_iff t).mpr hz
      obtain ⟨n, hn⟩ := t
      obtain rfl : n = 0 := hz
      rw [Inv_zero m c _ _ rfl, PhiA_eq]
      unfold ownsSt
      iintro ⟨⟨⟨HS0, HS1, ⟨%d, HS2⟩, HS3, HS4⟩, Hg⟩, Ho, ⟨%d0, H0⟩, ⟨%d1, H1⟩, ⟨%d2, H2⟩, H3, H4, H5⟩
      iapply (run_first c (grid0.coords ⟨0, hn⟩) _ _ _ _ _ _ _ _ _ _ _ _ _ _ _ _ _ _ _ _ _ _ hif hnl (muBlk m c ⟨0, hn⟩) (sgBlk m c ⟨0, hn⟩) (xBlk m c ⟨0, hn⟩)
        d Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      isplitl [HS0 HS1 HS2 HS3 HS4 Hg]
      · isplitl [HS0 HS1 HS2 HS3 HS4]
        · iexists d
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · have hnf : ¬isFirst (grid0.coords t) := fun h => hz ((isFirst_iff t).mp h)
      rw [Inv_pos m c _ _ hz]
      unfold ownsSt
      iintro ⟨⟨⟨%d, HS0, HS1, HS2, HS3, HS4⟩, Hg⟩, Ho, ⟨%d0, H0⟩, ⟨%d1, H1⟩, ⟨%d2, H2⟩, H3, H4, H5⟩
      iapply (run_mid c (grid0.coords t) _ _ _ _ _ _ _ _ _ _ _ _ _ _ _ _ _ _ _ _ _ _ hnf hnl (muBlk m c t) (sgBlk m c t) (xBlk m c t)
        (stAt m c d t.val (Nat.le_of_lt t.isLt)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      isplitl [HS0 HS1 HS2 HS3 HS4 Hg]
      · isplitl [HS0 HS1 HS2 HS3 HS4]
        · iexists d
          rw [stAt_succ m c d t.val t.isLt]
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The obligation the pipeline's rule asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Launch.lean ====
/- The launch: every run of the kernel ends with its arguments unchanged, its counters at zero and its result arrays at
   what the last grid point stored. -/
module

public import Idealize.ShloMosaic.Lib.Claim
public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the scratch buffers' contents are forgotten. -/
theorem hout (c : Dev nD) : (dats m 0 c).Φ (Fin.last cfg0.N) ⊢ Pipeline.ΦA spec0 c := by
  rw [show (dats m 0 c).Φ (Fin.last cfg0.N) = Inv m c cfg0.N le_rfl from rfl,
    Inv_pos m c _ _ (by have : cfg0.N = 4 := N_0; omega), PhiA_eq]
  unfold ownsSt
  iintro ⟨⟨%d, HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
set_option maxHeartbeats 800000 in
/-- Every run ends with the arrays the proof data names, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Results.lean ====
/- The result arrays at the end of a run: each output is one block, written back once after the last point, and the
   host's reshapes after the region read it. -/
module

public import proofs.«01_k».proof.Proof.Launch
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- The last grid point. -/
def tLast : Fin cfg0.N := ⟨3, by rw [show cfg0.N = 4 from N_0]; decide⟩

/-- A point at which an output is written back is the last. -/
theorem eq_tLast (t : Fin cfg0.N) (h : t.val % 4 = 3) : t = tLast := by
  have ht : t.val < 4 := Nat.lt_of_lt_of_eq t.isLt N_0
  exact Fin.ext (show t.val = 3 by omega)

/-! ## Each output's block is its whole array -/

theorem read_3 (c : Dev nD) (t : Fin cfg0.N) (f : Buf (Elt F) ((c : Thread nD τ).loc main_v6_0)) :
    ((cfg0.win 3).blk t).view.read (Elt F) f = f :=
  Memref.read_access_unit_zero (Elt F) main_v6_0
    (show (fun a => (win0_3.index t) a * main_v6_0.ty.shape.size a) = fun _ => 0 from
      funext fun a => by fin_cases a <;> rfl) (fun a => by fin_cases a <;> exact Nat.le_of_eq (by rfl)) f
theorem read_4 (c : Dev nD) (t : Fin cfg0.N) (f : Buf (Elt F) ((c : Thread nD τ).loc main_v6_1)) :
    ((cfg0.win 4).blk t).view.read (Elt F) f = f :=
  Memref.read_access_unit_zero (Elt F) main_v6_1
    (show (fun a => (win0_4.index t) a * main_v6_1.ty.shape.size a) = fun _ => 0 from
      funext fun a => by fin_cases a <;> rfl) (fun a => by fin_cases a <;> exact Nat.le_of_eq (by rfl)) f
theorem read_5 (c : Dev nD) (t : Fin cfg0.N) (f : Buf (Elt F) ((c : Thread nD τ).loc main_v6_2)) :
    ((cfg0.win 5).blk t).view.read (Elt F) f = f :=
  Memref.read_access_unit_zero (Elt F) main_v6_2
    (show (fun a => (win0_5.index t) a * main_v6_2.ty.shape.size a) = fun _ => 0 from
      funext fun a => by fin_cases a <;> rfl) (fun a => by fin_cases a <;> exact Nat.le_of_eq (by rfl)) f

/-! ## The arrays after the region -/

/-- An array whose one block is read whole ends at what the last point wrote back. -/
theorem arr_3 (c : Dev nD) : (dats m 0 c).arrAt 3 cfg0.N = outDists m c tLast := by
  have hw : ((cfg0.win 3).blk tLast).view.read (Elt F) ((dats m 0 c).arrAt 3 cfg0.N) = (dats m 0 c).flushed 3 tLast := by
    rw [show cfg0.N = tLast.val + 1 from N_0, (dats m 0 c).arrAt_succ 3 tLast, (flush0_3 tLast).mpr rfl, if_pos rfl]
    exact View.read_write_univ _ _
  exact (read_3 c tLast _).symm.trans (hw.trans (by
    show (cfg0.win 3).cut _ ((dats m 0 c).after 3 tLast) = _
    rw [after_3]; rfl))
theorem arr_4 (c : Dev nD) : (dats m 0 c).arrAt 4 cfg0.N = outY m c tLast := by
  have hw : ((cfg0.win 4).blk tLast).view.read (Elt F) ((dats m 0 c).arrAt 4 cfg0.N) = (dats m 0 c).flushed 4 tLast := by
    rw [show cfg0.N = tLast.val + 1 from N_0, (dats m 0 c).arrAt_succ 4 tLast, (flush0_4 tLast).mpr rfl, if_pos rfl]
    exact View.read_write_univ _ _
  exact (read_4 c tLast _).symm.trans (hw.trans (by
    show (cfg0.win 4).cut _ ((dats m 0 c).after 4 tLast) = _
    rw [after_4]; rfl))
theorem arr_5 (c : Dev nD) : (dats m 0 c).arrAt 5 cfg0.N = outLoss m c tLast := by
  have hw : ((cfg0.win 5).blk tLast).view.read (Elt F) ((dats m 0 c).arrAt 5 cfg0.N) = (dats m 0 c).flushed 5 tLast := by
    rw [show cfg0.N = tLast.val + 1 from N_0, (dats m 0 c).arrAt_succ 5 tLast, (flush0_5 tLast).mpr rfl, if_pos rfl]
    exact View.read_write_univ _ _
  exact (read_5 c tLast _).symm.trans (hw.trans (by
    show (cfg0.win 5).cut _ ((dats m 0 c).after 5 tLast) = _
    rw [after_5]; rfl))

/-! ## The results, after the host's reshapes -/

theorem res_v7 (c : Dev nD) : Pipeline.afterTail₀ cfgs (dats m) 0 (V0 m) [hostOps1] c main_v7
    = shapeCast S256 (outY m c tLast) shapeCasts_S1x256_S256 := by
  unfold Pipeline.afterTail₀
  have h : Pipeline.withArrays (cfgs 0).spec c (V0 m c) (fun w => (dats m 0 c).arrAt w (cfgs 0).N) (Proc.devRef .tc (Pipeline.arrRef spec0 4))
      = outY m c tLast := (Pipeline.withArrays_arr spec0 launch0.win.arr_inj c (V0 m c) _ 4).trans (arr_4 m c)
  generalize Pipeline.withArrays (cfgs 0).spec c (V0 m c) (fun w => (dats m 0 c).arrAt w (cfgs 0).N) = X at h ⊢
  simp only [hostOps1, List.flatten_cons, List.flatten_nil, List.append_nil]
  after_results_simp
  exact congrArg (fun y => shapeCast _ y _) h

theorem res_v8 (c : Dev nD) : Pipeline.afterTail₀ cfgs (dats m) 0 (V0 m) [hostOps1] c main_v8
    = shapeCast S_ (outLoss m c tLast) shapeCasts_S1x1_S_ := by
  unfold Pipeline.afterTail₀
  have h : Pipeline.withArrays (cfgs 0).spec c (V0 m c) (fun w => (dats m 0 c).arrAt w (cfgs 0).N) (Proc.devRef .tc (Pipeline.arrRef spec0 5))
      = outLoss m c tLast := (Pipeline.withArrays_arr spec0 launch0.win.arr_inj c (V0 m c) _ 5).trans (arr_5 m c)
  generalize Pipeline.withArrays (cfgs 0).spec c (V0 m c) (fun w => (dats m 0 c).arrAt w (cfgs 0).N) = X at h ⊢
  simp only [hostOps1, List.flatten_cons, List.flatten_nil, List.append_nil]
  after_results_simp
  exact congrArg (fun y => shapeCast _ y _) h

theorem res_v9 (c : Dev nD) : Pipeline.afterTail₀ cfgs (dats m) 0 (V0 m) [hostOps1] c main_v9
    = shapeCast S8192 (outDists m c tLast) shapeCasts_S4x2048_S8192 := by
  unfold Pipeline.afterTail₀
  have h : Pipeline.withArrays (cfgs 0).spec c (V0 m c) (fun w => (dats m 0 c).arrAt w (cfgs 0).N) (Proc.devRef .tc (Pipeline.arrRef spec0 3))
      = outDists m c tLast := (Pipeline.withArrays_arr spec0 launch0.win.arr_inj c (V0 m c) _ 3).trans (arr_3 m c)
  generalize Pipeline.withArrays (cfgs 0).spec c (V0 m c) (fun w => (dats m 0 c).arrAt w (cfgs 0).N) = X at h ⊢
  simp only [hostOps1, List.flatten_cons, List.flatten_nil, List.append_nil]
  after_results_simp
  exact congrArg (fun y => shapeCast _ y _) h

/-- Every run ends with the results at those values and the arguments unchanged. -/
theorem run_results : θ_run defs (onTc (τ := τ) (main (F := F))) ⟨m, fun _ => 0, ρ⟩ (fun r => ∀ c : Dev nD,
      r.2.mem ((c.tc : Thread nD τ).loc main_v7) = shapeCast S256 (outY m c tLast) shapeCasts_S1x256_S256
      ∧ r.2.mem ((c.tc : Thread nD τ).loc main_v8) = shapeCast S_ (outLoss m c tLast) shapeCasts_S1x1_S_
      ∧ r.2.mem ((c.tc : Thread nD τ).loc main_v9) = shapeCast S8192 (outDists m c tLast) shapeCasts_S4x2048_S8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have hr := (h c).2
    ⟨(hr main_v7 (Pipeline.mem_restRefs_of main_v7 (by decide) (by decide))).trans (res_v7 m c),
      (hr main_v8 (Pipeline.mem_restRefs_of main_v8 (by decide) (by decide))).trans (res_v8 m c),
      (hr main_v9 (Pipeline.mem_restRefs_of main_v9 (by decide) (by decide))).trans (res_v9 m c),
      (hr main_arg0 (Pipeline.mem_restRefs_of main_arg0 (by decide) (by decide))).trans (W_main_arg0 m (dats m) c),
      (hr main_arg1 (Pipeline.mem_restRefs_of main_arg1 (by decide) (by decide))).trans (W_main_arg1 m (dats m) c),
      (hr main_arg2 (Pipeline.mem_restRefs_of main_arg2 (by decide) (by decide))).trans (W_main_arg2 m (dats m) c)⟩)
    (run_main m ρ)

end Cert.KernelIdeal.Hand

end
-- ==== Proof.Algebra.lean ====
/- The real mathematics both programs compute: squared distances, weights of a softmax over their negatives,
   the weighted mean of the states and its squared error. Indices are naturals: the query is `q j 0`, `q j 1`
   (mean and deviation of dimension `j`), a state is `st k j 0`, `st k j 1`. -/
module

public import Mathlib.Analysis.SpecialFunctions.Exp
public import Mathlib.Algebra.BigOperators.Field
public import Mathlib.Data.EReal.Operations

@[expose] public section

noncomputable section

namespace Cert.Hand

open Finset

variable (q : ℕ → ℕ → ℝ) (st : ℕ → ℕ → ℕ → ℝ)

/-- The squared distance of the query to state `k`. -/
def dist (k : ℕ) : ℝ := ∑ j ∈ range 256, ((q j 0 - st k j 0) ^ 2 + (q j 1 - st k j 1) ^ 2)

/-- The weight of state `k` when `M` is taken off every logit. -/
def wt (M : ℝ) (k : ℕ) : ℝ := Real.exp (-dist q st k - M)

/-- The weights of the first `n` states summed. -/
def total (n : ℕ) (M : ℝ) : ℝ := ∑ k ∈ range n, wt q st M k

/-- The first `n` states' coordinate `(j, s)` summed with their weights. -/
def moment (n : ℕ) (M : ℝ) (j s : ℕ) : ℝ := ∑ k ∈ range n, wt q st M k * st k j s

/-- The weighted mean of the states' means at dimension `j`. -/
def quant (j : ℕ) : ℝ := moment q st 8192 0 j 0 / total q st 8192 0

/-- The mean squared error of the weighted mean. -/
def loss : ℝ := (∑ j ∈ range 256, (quant q st j - q j 0) ^ 2) / 256

/-! ## The weights under a change of what is taken off -/

theorem wt_shift (M M' : ℝ) (k : ℕ) : wt q st M' k = wt q st M k * Real.exp (M - M') := by
  unfold wt; rw [← Real.exp_add]; congr 1; ring

theorem total_shift (n : ℕ) (M M' : ℝ) : total q st n M' = total q st n M * Real.exp (M - M') := by
  unfold total; rw [sum_mul]; exact sum_congr rfl fun k _ => wt_shift q st M M' k

theorem moment_shift (n : ℕ) (M M' : ℝ) (j s : ℕ) :
    moment q st n M' j s = moment q st n M j s * Real.exp (M - M') := by
  unfold moment; rw [sum_mul]
  exact sum_congr rfl fun k _ => by rw [wt_shift q st M M' k]; ring

theorem wt_pos (M : ℝ) (k : ℕ) : 0 < wt q st M k := Real.exp_pos _

theorem total_pos (n : ℕ) (hn : 0 < n) (M : ℝ) : 0 < total q st n M :=
  sum_pos (fun k _ => wt_pos q st M k) ⟨0, mem_range.2 hn⟩

/-- The weighted mean does not depend on what is taken off. -/
theorem quant_eq (M : ℝ) (j : ℕ) : moment q st 8192 M j 0 / total q st 8192 M = quant q st j := by
  have h := (total_pos q st 8192 (by norm_num) 0).ne'
  have hM := (Real.exp_pos (0 - M)).ne'
  unfold quant
  rw [moment_shift q st 8192 0 M, total_shift q st 8192 0 M]
  field_simp

/-! ## Blocks of 2048 states -/

/-- A block more, and another number taken off: the old sum rescaled plus the block's weights. -/
theorem total_block (t : ℕ) (M M' : ℝ) : total q st (2048 * (t + 1)) M'
    = total q st (2048 * t) M * Real.exp (M - M') + ∑ k ∈ range 2048, wt q st M' (2048 * t + k) := by
  rw [← total_shift]; unfold total
  rw [Nat.mul_succ, sum_range_add]

theorem moment_block (t : ℕ) (M M' : ℝ) (j s : ℕ) : moment q st (2048 * (t + 1)) M' j s
    = moment q st (2048 * t) M j s * Real.exp (M - M')
      + ∑ k ∈ range 2048, wt q st M' (2048 * t + k) * st (2048 * t + k) j s := by
  rw [← moment_shift]; unfold moment
  rw [Nat.mul_succ, sum_range_add]

/-! ## Four rows a state -/

/-- The row a block of states keeps at `(r, l)`: row `4 k + a` is half of state `k`'s means (`a` even) or
    deviations (`a` odd), the low half for `a < 2`. -/
def xrow (t r l : ℕ) : ℝ := st (2048 * t + r / 4) (128 * (r % 4 / 2) + l) (r % 2)

/-- The query laid out alike. -/
def qrow (r l : ℕ) : ℝ := q (128 * (r % 4 / 2) + l) (r % 2)

/-- A row's part of the squared distance. -/
def drow (t r : ℕ) : ℝ := ∑ l ∈ range 128, (xrow st t r l - qrow q r l) ^ 2

/-- The four rows' parts are the distance. -/
theorem drow_sum (t k : ℕ) : drow q st t (4 * k) + drow q st t (4 * k + 1) + drow q st t (4 * k + 2) + drow q st t (4 * k + 3)
    = dist q st (2048 * t + k) := by
  unfold drow dist xrow qrow
  rw [show (4 * k) / 4 = k by omega, show (4 * k + 1) / 4 = k by omega, show (4 * k + 2) / 4 = k by omega,
    show (4 * k + 3) / 4 = k by omega, show (4 * k) % 4 = 0 by omega, show (4 * k + 1) % 4 = 1 by omega,
    show (4 * k + 2) % 4 = 2 by omega, show (4 * k + 3) % 4 = 3 by omega, show (4 * k) % 2 = 0 by omega,
    show (4 * k + 1) % 2 = 1 by omega, show (4 * k + 2) % 2 = 0 by omega, show (4 * k + 3) % 2 = 1 by omega,
    show (256 : ℕ) = 128 + 128 from rfl, sum_range_add, ← sum_add_distrib, ← sum_add_distrib, ← sum_add_distrib, ← sum_add_distrib]
  refine sum_congr rfl fun l _ => ?_
  norm_num
  ring

/-- A sum over lanes, four at a time. -/
theorem sum_four {A : Type} [AddCommMonoid A] (f : ℕ → A) : ∀ n : ℕ,
    ∑ j ∈ range (4 * n), f j = ∑ k ∈ range n, (f (4 * k) + f (4 * k + 1) + f (4 * k + 2) + f (4 * k + 3))
  | 0 => rfl
  | n + 1 => by
    rw [sum_range_succ, ← sum_four f n, show 4 * (n + 1) = 4 * n + 1 + 1 + 1 + 1 by ring,
      sum_range_succ, sum_range_succ, sum_range_succ, sum_range_succ]
    simp only [add_assoc]

/-- A sum over lanes of which only those at `a` above a multiple of four count. -/
theorem sum_lanes {A : Type} [AddCommMonoid A] (a : ℕ) (ha : a < 4) (G : ℕ → A) :
    ∑ j ∈ range 8192, (if j % 4 = a then G (j / 4) else 0) = ∑ k ∈ range 2048, G k := by
  rw [show 8192 = 4 * 2048 from rfl, sum_four]
  refine sum_congr rfl fun k _ => ?_
  rw [show (4 * k) / 4 = k by omega, show (4 * k + 1) / 4 = k by omega, show (4 * k + 2) / 4 = k by omega,
    show (4 * k + 3) / 4 = k by omega, show (4 * k) % 4 = 0 by omega, show (4 * k + 1) % 4 = 1 by omega,
    show (4 * k + 2) % 4 = 2 by omega, show (4 * k + 3) % 4 = 3 by omega]
  obtain rfl | rfl | rfl | rfl : a = 0 ∨ a = 1 ∨ a = 2 ∨ a = 3 := by omega
  all_goals simp

/-! ## Reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of reals over `Fin n`, as the real sum over the numbers below `n`. -/
theorem coe_sum_fin (n : ℕ) (f : ℕ → ℝ) : ∑ i : Fin n, (f i.val : EReal) = ((∑ i ∈ range n, f i : ℝ) : EReal) := by
  rw [coe_sum, Finset.sum_range]

/-- A number neither infinity is real. -/
theorem exists_real {x : EReal} (hb : x ≠ ⊥) (ht : x ≠ ⊤) : ∃ r : ℝ, x = (r : EReal) :=
  ⟨x.toReal, (EReal.coe_toReal ht hb).symm⟩

/-- The greatest of finitely many numbers, none of them `⊤` and one of them real, and of a number not `⊤`, is real. -/
theorem max_fold_real {ι : Type} (s : Finset ι) (f : ι → EReal) (x : EReal) (hx : x ≠ ⊤) (hf : ∀ i ∈ s, f i ≠ ⊤)
    (i : ι) (hi : i ∈ s) (hb : f i ≠ ⊥) : ∃ M : ℝ, max x (s.fold max ⊥ f) = (M : EReal) := by
  have hlt : s.fold max ⊥ f < ⊤ := (fold_max_lt _).2 ⟨bot_lt_top, fun j hj => lt_top_iff_ne_top.2 (hf j hj)⟩
  have hgt : ⊥ < s.fold max ⊥ f := (lt_fold_max _).2 (.inr ⟨i, hi, bot_lt_iff_ne_bot.2 hb⟩)
  exact exists_real (ne_of_gt (lt_of_lt_of_le hgt (le_max_right _ _)))
    (ne_of_lt (max_lt (lt_top_iff_ne_top.2 hx) hlt))

end Cert.Hand

end
-- ==== Proof.Payloads.lean ====
/- The body's vector expressions read at an index over the extended reals, first as they are printed,
   then on operands that hold reals. -/
module

public import proofs.«01_k».proof.Proof.State
public import proofs.«01_k».proof.Proof.Algebra
public import Idealize.ShloMosaic.Lib.Pointwise
public import Idealize.ShloMosaic.Lib.Routing.Words

@[expose] public section

set_option maxRecDepth 16384

noncomputable section

namespace Cert.KernelIdeal.Hand

open Idealize.ShloMosaic Idealize.ShloMosaic.TcCoe
open Cert.KernelIdeal.Gen Cert.Hand
open Finset (range)

/-! ## Constants -/

theorem ofBits_top : Ideal.ofBits .f32 0x7F800000#32 = (⊤ : EReal) := by
  simp [Ideal.ofBits, Ideal.ieee]

theorem ofBits_bot : Ideal.ofBits .f32 0xFF800000#32 = (⊥ : EReal) := by
  simp [Ideal.ofBits, Ideal.ieee]

theorem ofBits_256 : Ideal.ofBits .f32 0x43800000#32 = ((256 : ℝ) : EReal) := by
  simp [Ideal.ofBits, Ideal.ieee]
  rw [← EReal.coe_mul]
  norm_num

/-! ## A number's remainder by four, as words -/

/-- The remainder of a non-negative word by four, corrected for negative ones as the kernel prints it. -/
def mod4 (w : BitVec 32) : BitVec 32 :=
  Scalar.select
    (IntOp.andi
      (IntOp.xori (IntOp.cmpi .slt (IntOp.remsi .vector w (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector w (Scalar.select (Scalar.cmpi .eq 4#32 0#32) 1#32 4#32)) 0#32))
    (IntOp.addi (IntOp.remsi .vector w (Scalar.select (Scalar.cmpi .eq 4#32 0#32) 1#32 4#32))
      (Scalar.select (Scalar.cmpi .eq 4#32 0#32) 1#32 4#32))
    (IntOp.remsi .vector w (Scalar.select (Scalar.cmpi .eq 4#32 0#32) 1#32 4#32))

theorem mod4_word (r : ℕ) (hr : r < 8192) : mod4 (BitVec.ofNat 32 r) = BitVec.ofNat 32 (r % 4) := by
  have e4 : Scalar.select (Scalar.cmpi .eq 4#32 0#32) 1#32 4#32 = BitVec.ofNat 32 4 := rfl
  unfold mod4
  rw [e4, Routing.remsi_word .vector (by omega) (by omega) (by omega)]
  obtain h | h | h | h : r % 4 = 0 ∨ r % 4 = 1 ∨ r % 4 = 2 ∨ r % 4 = 3 := by omega
  all_goals rw [h]; rfl

theorem mod4_eq (r a : ℕ) (hr : r < 8192) (ha : a < 4) {α : Type} (x y : α) :
    Scalar.select (IntOp.cmpi .eq (mod4 (BitVec.ofNat 32 r)) (BitVec.ofNat 32 a)) x y = if r % 4 = a then x else y := by
  rw [mod4_word r hr]
  obtain h | h | h | h : r % 4 = 0 ∨ r % 4 = 1 ∨ r % 4 = 2 ∨ r % 4 = 3 := by omega
  all_goals
    obtain rfl | rfl | rfl | rfl : a = 0 ∨ a = 1 ∨ a = 2 ∨ a = 3 := by omega
    all_goals rw [h]; rfl

/-! ## What the first point sets up -/

/-- The mask: nothing at the lanes that are multiples of four, `⊤` at the others. -/
theorem mask_apply (r : Fin 8192) : k0_pay8 (F := Ideal) (ix2 0 r) = if r.val % 4 = 0 then 0 else (⊤ : EReal) := by
  pointwise [k0_pay8]
  rw [← ofBits_top]
  exact mod4_eq r.val 0 r.isLt (by omega) _ _

/-- The query's rows. -/
theorem query_apply (q : ℕ → ℕ → ℝ) (mu sg : FVec Ideal S1x256 .f32)
    (hmu : ∀ j : Fin 256, mu (ix2 0 j) = (q j 0 : EReal)) (hsg : ∀ j : Fin 256, sg (ix2 0 j) = (q j 1 : EReal))
    (r : Fin 8192) (l : Fin 128) : k0_pay7 (F := Ideal) mu sg (ix2 r l) = (qrow q r l : EReal) := by
  pointwise [k0_pay7]
  refine (mod4_eq r.val 0 r.isLt (by omega) _ _).trans ?_
  unfold qrow
  split
  · next h => rw [hmu, h, show r.val % 2 = 0 by omega]; simp
  refine (mod4_eq r.val 1 r.isLt (by omega) _ _).trans ?_
  split
  · next h => rw [hsg, h, show r.val % 2 = 1 by omega]; simp
  refine (mod4_eq r.val 2 r.isLt (by omega) _ _).trans ?_
  split
  · next h => rw [hmu, h, show r.val % 2 = 0 by omega]
  · rw [hsg, show r.val % 4 = 3 by omega, show r.val % 2 = 1 by omega]

/-! ## Distances -/

/-- A block's row of distance parts. -/
theorem rows_apply (X Q : ℕ → ℕ → ℝ) (x qb : Vec Ideal S8192x128 .f32)
    (hx : ∀ (r : Fin 8192) (l : Fin 128), x (ix2 r l) = (X r l : EReal))
    (hq : ∀ (r : Fin 8192) (l : Fin 128), qb (ix2 r l) = (Q r l : EReal)) (r : Fin 8192) :
    k0_pay11 x qb (ix2 0 r) = ((∑ l ∈ range 128, (X r l - Q r l) ^ 2 : ℝ) : EReal) := by
  pointwise [k0_pay11, k0_pay10]
  simp only [hx, hq, ← EReal.coe_sub, ← EReal.coe_mul, sub_self]
  rw [coe_sum_fin 128 (fun l => (X r l - Q r l) * (X r l - Q r l)), EReal.coe_zero, Finset.sum_const_zero, add_zero]
  simp only [sq]

/-- The same as it is stored. -/
theorem stored_apply (x qb : Vec Ideal S8192x128 .f32) (r : Fin 8192) :
    k0_pay12 (F := Ideal) x qb (ix2 0 r) = k0_pay11 x qb (ix2 0 r) := by
  pointwise [k0_pay12]

/-- The stored rows summed four at a time. -/
theorem dists_apply (d : Vec Ideal S4x8192 .f32) (g : ℕ → ℕ → ℝ)
    (hd : ∀ (a : Fin 4) (r : Fin 8192), d (ix2 a r) = (g a r : EReal)) (a : Fin 4) (k : Fin 2048) :
    k0_pay4 (F := Ideal) d (ix2 a k)
      = ((g a (4 * k) + g a (4 * k + 1) + g a (4 * k + 2) + g a (4 * k + 3) : ℝ) : EReal) := by
  pointwise [k0_pay4]
  simp only [hd, Fin.sum_univ_four, ← EReal.coe_add]
  simp [mul_comm]

/-- A row rotated along its lanes. -/
theorem rotate_lane (n : ℕ) (hn : n < 8192) (x : FVec Ideal S1x8192 .f32) (r : Fin 8192) :
    dynamicRotate 1 (BitVec.ofNat 32 n) none x rotates_S1x8192_d1 (ix2 0 r)
      = x (ix2 0 ⟨(r.val + 8192 - n) % 8192, Nat.mod_lt _ (by omega)⟩) := by
  refine congrArg x (funext fun b => ?_)
  fin_cases b
  · rfl
  · refine Fin.ext ?_
    show (r.val + 8192 - (BitVec.ofNat 32 n).toNat % 8192) % 8192 = (r.val + 8192 - n) % 8192
    rw [BitVec.toNat_ofNat, Nat.mod_eq_of_lt (show n < 2 ^ 32 by omega), Nat.mod_eq_of_lt hn]

/-- The lane a rotation by `8192 - m` brings to lane `r`, away from the end. -/
theorem lane_next (r m n : ℕ) (h : r + m < 8192) (hn : n + m = 8192) : (r + 8192 - n) % 8192 = r + m := by
  rw [show r + 8192 - n = r + m by omega, Nat.mod_eq_of_lt h]

/-- The logits: at the lanes that are multiples of four the negated sum of that lane's part and the next three,
    `⊥` at the others. -/
theorem logits_apply (g : ℕ → ℝ) (x qb : Vec Ideal S8192x128 .f32)
    (hg : ∀ r : Fin 8192, k0_pay11 x qb (ix2 0 r) = (g r : EReal)) (r : Fin 8192) :
    k0_pay13 (F := Ideal) x qb (k0_pay8 (F := Ideal)) (ix2 0 r)
      = if r.val % 4 = 0 then ((-(g r + g (r + 1) + g (r + 2) + g (r + 3)) : ℝ) : EReal) else ⊥ := by
  have h0 := hg r
  have e : k0_pay13 (F := Ideal) x qb (k0_pay8 (F := Ideal)) (ix2 0 r)
      = Ideal.ofBits .f32 0x00000000#32 - (k0_pay11 x qb (ix2 0 r)
        + dynamicRotate 1 (BitVec.ofNat 32 8191) none (k0_pay11 x qb) rotates_S1x8192_d1 (ix2 0 r)
        + dynamicRotate 1 (BitVec.ofNat 32 8190) none (k0_pay11 x qb) rotates_S1x8192_d1 (ix2 0 r)
        + dynamicRotate 1 (BitVec.ofNat 32 8189) none (k0_pay11 x qb) rotates_S1x8192_d1 (ix2 0 r)
        + k0_pay8 (F := Ideal) (ix2 0 r)) := rfl
  rw [e, mask_apply, rotate_lane _ (by omega), rotate_lane _ (by omega), rotate_lane _ (by omega), hg, hg, hg, hg,
    Ideal.ofBits_zero_f32]
  split
  · next h =>
    have hr := r.isLt
    have e1 : (r.val + 8192 - 8191) % 8192 = r.val + 1 := lane_next r.val 1 8191 (by omega) rfl
    have e2 : (r.val + 8192 - 8190) % 8192 = r.val + 2 := lane_next r.val 2 8190 (by omega) rfl
    have e3 : (r.val + 8192 - 8189) % 8192 = r.val + 3 := lane_next r.val 3 8189 (by omega) rfl
    rw [add_zero, zero_sub, ← EReal.coe_add, ← EReal.coe_add, ← EReal.coe_add, ← EReal.coe_neg]
    simp only [e1, e2, e3]
  · rw [← EReal.coe_add, ← EReal.coe_add, ← EReal.coe_add, EReal.coe_add_top, zero_sub, EReal.neg_top]

/-! ## The running softmax -/

/-- The largest logit so far is real: the block has a real one, and none is `⊤`. -/
theorem max_apply (D : ℕ → ℝ) (x qb : Vec Ideal S8192x128 .f32) (mi : Vec Ideal S1x8192 .f32)
    (hl : ∀ r : Fin 8192, k0_pay13 (F := Ideal) x qb mi (ix2 0 r) = if r.val % 4 = 0 then ((-D (r / 4) : ℝ) : EReal) else ⊥)
    (s : EReal) (hs : s ≠ ⊤) : ∃ M : ℝ, k0_pay14 (F := Ideal) x qb mi s = (M : EReal) := by
  have e : k0_pay14 (F := Ideal) x qb mi s
      = max s (Finset.univ.fold max ⊥ fun y : Fin 1 × Fin 8192 => k0_pay13 x qb mi (ix2 0 y.2)) := by
    rw [← ofBits_bot]
    pointwise [k0_pay14]
  rw [e]
  refine max_fold_real _ _ s hs (fun i _ => ?_) (0, 0) (Finset.mem_univ _) ?_
  · rw [hl]; split
    · exact EReal.coe_ne_top _
    · exact bot_ne_top
  · rw [hl]; exact EReal.coe_ne_bot _

/-- A lane's weight. -/
theorem weight_apply (D : ℕ → ℝ) (M : ℝ) (lg m : FVec Ideal S1x8192 .f32)
    (hl : ∀ r : Fin 8192, lg (ix2 0 r) = if r.val % 4 = 0 then ((-D (r / 4) : ℝ) : EReal) else ⊥)
    (hm : ∀ r : Fin 8192, m (ix2 0 r) = (M : EReal)) (r : Fin 8192) :
    k0_pay1 (F := Ideal) lg m (ix2 0 r) = ((if r.val % 4 = 0 then Real.exp (-D (r / 4) - M) else 0 : ℝ) : EReal) := by
  have e : k0_pay1 (F := Ideal) lg m (ix2 0 r) = Ideal.exp (lg (ix2 0 r) - m (ix2 0 r)) := rfl
  rw [e, hl, hm]
  split
  · rw [← EReal.coe_sub]; rfl
  · rw [EReal.bot_sub]; rfl

/-- The running sum of weights. -/
theorem sum_apply (D : ℕ → ℝ) (M c S : ℝ) (lg m : FVec Ideal S1x8192 .f32)
    (hw : ∀ r : Fin 8192, k0_pay1 (F := Ideal) lg m (ix2 0 r) = ((if r.val % 4 = 0 then Real.exp (-D (r / 4) - M) else 0 : ℝ) : EReal)) :
    k0_pay2 (F := Ideal) lg (c : EReal) m (S : EReal) = ((S * c + ∑ k ∈ range 2048, Real.exp (-D k - M) : ℝ) : EReal) := by
  pointwise [k0_pay2]
  rw [Fintype.sum_unique]
  simp only [hw]
  rw [coe_sum_fin 8192 (fun r => if r % 4 = 0 then Real.exp (-D (r / 4) - M) else 0),
    sum_lanes 0 (by omega) (fun k => Real.exp (-D k - M)), EReal.coe_add, EReal.coe_mul]

/-- The lane a rotation by `a` brings to lane `r` is a multiple of four exactly when `r` is `a` above one, and then
    it is that one. -/
theorem lane_back (r a n : ℕ) (hr : r < 8192) (ha : a < 4) (hn : n + a = 8192) :
    ((r + 8192 - a) % 8192 % 4 = 0 ↔ r % 4 = a) ∧ (r % 4 = a → (r + 8192 - a) % 8192 / 4 = r / 4) := by
  rw [show r + 8192 - a = r + n by omega]
  by_cases h : r < a
  · rw [Nat.mod_eq_of_lt (show r + n < 8192 by omega)]; omega
  · rw [show r + n = (r - a) + 8192 by omega, Nat.add_mod_right, Nat.mod_eq_of_lt (show r - a < 8192 by omega)]; omega

/-- A lane's part of a weighted sum. -/
theorem lane_weight (D : ℕ → ℝ) (M : ℝ) (X : ℕ → ℕ → ℝ) (l r y a : ℕ) (h1 : y % 4 = 0 ↔ r % 4 = a)
    (h2 : r % 4 = a → y / 4 = r / 4) :
    ((if y % 4 = 0 then Real.exp (-D (y / 4) - M) else 0 : ℝ) : EReal) * (X r l : EReal)
      = ((if r % 4 = a then Real.exp (-D (r / 4) - M) * X (4 * (r / 4) + a) l else 0 : ℝ) : EReal) := by
  rw [← EReal.coe_mul]
  by_cases h : r % 4 = a
  · rw [if_pos h, if_pos (h1.2 h), h2 h, show 4 * (r / 4) + a = r by omega]
  · rw [if_neg h, if_neg fun e => h (h1.1 e), zero_mul]

set_option maxHeartbeats 2000000 in
/-- The running weighted sums of the block's rows: row `a` of four sums the rows `a` above a multiple of four. -/
theorem acc_apply (D : ℕ → ℝ) (M c : ℝ) (X A : ℕ → ℕ → ℝ) (x : FVec Ideal S8192x128 .f32) (lg m : FVec Ideal S1x8192 .f32)
    (acc : Vec Ideal S4x128 .f32)
    (hx : ∀ (r : Fin 8192) (l : Fin 128), x (ix2 r l) = (X r l : EReal))
    (ha : ∀ (a : Fin 4) (l : Fin 128), acc (ix2 a l) = (A a l : EReal))
    (hw : ∀ r : Fin 8192, k0_pay1 (F := Ideal) lg m (ix2 0 r) = ((if r.val % 4 = 0 then Real.exp (-D (r / 4) - M) else 0 : ℝ) : EReal))
    (a : Fin 4) (l : Fin 128) :
    k0_pay3 (F := Ideal) x lg (c : EReal) m acc (ix2 a l)
      = ((A a l * c + ∑ k ∈ range 2048, Real.exp (-D k - M) * X (4 * k + a) l : ℝ) : EReal) := by
  pointwise [k0_pay3]
  rw [ha, EReal.coe_add, EReal.coe_mul, ← sum_lanes a.val a.isLt, ← coe_sum_fin]
  refine congrArg (_ + ·) (Finset.sum_congr rfl fun r _ => ?_)
  have hr := r.isLt
  rw [hx]
  have hrow : ∀ (i : Fin 1) (y : Fin 8192), k0_pay1 (F := Ideal) lg m (ix2 i y)
      = ((if y.val % 4 = 0 then Real.exp (-D (y / 4) - M) else 0 : ℝ) : EReal) := fun i y => by
    rw [show i = 0 from Subsingleton.elim _ _, hw]
  simp only [hrow]
  obtain h | h | h | h : a.val = 0 ∨ a.val = 1 ∨ a.val = 2 ∨ a.val = 3 := by omega
  · rw [dif_pos (by omega), h]
    exact lane_weight D M X l.val r.val r.val 0 Iff.rfl fun _ => rfl
  · rw [dif_neg (by omega), dif_pos (by omega), h]
    exact lane_weight D M X l.val r.val _ 1 (lane_back r.val 1 8191 hr (by omega) rfl).1 (lane_back r.val 1 8191 hr (by omega) rfl).2
  · rw [dif_neg (by omega), dif_neg (by omega), dif_pos (by omega), h]
    exact lane_weight D M X l.val r.val _ 2 (lane_back r.val 2 8190 hr (by omega) rfl).1 (lane_back r.val 2 8190 hr (by omega) rfl).2
  · rw [dif_neg (by omega), dif_neg (by omega), dif_neg (by omega), h]
    exact lane_weight D M X l.val r.val _ 3 (lane_back r.val 3 8189 hr (by omega) rfl).1 (lane_back r.val 3 8189 hr (by omega) rfl).2

/-! ## The outputs -/

/-- The weighted mean: the low half from row 0, the high half from row 2. -/
theorem mean_apply (acc : Vec Ideal S4x128 .f32) (A : ℕ → ℕ → ℝ) (S : ℝ) (hS : S ≠ 0)
    (ha : ∀ (a : Fin 4) (l : Fin 128), acc (ix2 a l) = (A a l : EReal)) (j : Fin 256) :
    k0_pay5 (F := Ideal) acc (S : EReal) (ix2 0 j) = ((A (2 * (j / 128)) (j % 128) / S : ℝ) : EReal) := by
  pointwise [k0_pay5]
  have hj := j.isLt
  have hd : ∀ y : ℝ, Ideal.div (y : EReal) (S : EReal) = ((y / S : ℝ) : EReal) := fun y => by
    rw [Ideal.div_coe hS, ← EReal.coe_mul, mul_one_div]
  split
  · next h =>
    rw [ha, hd, show j.val / 128 = 0 by omega, Nat.mod_eq_of_lt h]; rfl
  · next h =>
    rw [ha, hd, show j.val / 128 = 1 by omega, show j.val % 128 = j.val - 128 by omega]; rfl

/-- The mean squared error. -/
theorem loss_apply (acc : Vec Ideal S4x128 .f32) (S : EReal) (mu : Vec Ideal S1x256 .f32) (y v : ℕ → ℝ)
    (hy : ∀ j : Fin 256, k0_pay5 (F := Ideal) acc S (ix2 0 j) = (y j : EReal)) (hv : ∀ j : Fin 256, mu (ix2 0 j) = (v j : EReal)) :
    k0_pay6 (F := Ideal) acc S mu (ix2 0 0) = (((∑ j ∈ range 256, (y j - v j) ^ 2) / 256 : ℝ) : EReal) := by
  pointwise [k0_pay6]
  rw [Fintype.sum_unique, ofBits_256, Ideal.div_coe (by norm_num)]
  simp only [hy, hv, ← EReal.coe_sub, ← EReal.coe_mul]
  rw [coe_sum_fin 256 (fun j => (y j - v j) * (y j - v j)), ← EReal.coe_mul, mul_one_div]
  simp only [sq]

end Cert.KernelIdeal.Hand

end
-- ==== Proof.Invariant.lean ====
/- What the kernel's scratch buffers carry from grid point to grid point over the extended reals: the running sums are
   those of the states seen so far, up to the one factor a change of the running maximum brings. -/
module

public import proofs.«01_k».proof.Proof.Points
public import proofs.«01_k».proof.Proof.Payloads

@[expose] public section

set_option maxRecDepth 16384

noncomputable section

namespace Cert.KernelIdeal.Hand

open Idealize.ShloMosaic Idealize.ShloMosaic.TcCoe
open Cert.KernelIdeal.Gen Cert.Hand
open Finset (range)

variable (q : ℕ → ℕ → ℝ) (st : ℕ → ℕ → ℕ → ℝ)

/-! ## One block -/

section Block

variable {q st} {t : ℕ} {x qb : Vec Ideal S8192x128 .f32}
variable (hx : ∀ (r : Fin 8192) (l : Fin 128), x (ix2 r l) = (xrow st t r l : EReal))
variable (hq : ∀ (r : Fin 8192) (l : Fin 128), qb (ix2 r l) = (qrow q r l : EReal))
include hx hq

/-- A row's part of a distance. -/
theorem block_rows (r : Fin 8192) : k0_pay11 (F := Ideal) x qb (ix2 0 r) = (drow q st t r : EReal) :=
  rows_apply (xrow st t) (qrow q) x qb hx hq r

/-- The logits of a block: its distances negated, one lane in four. -/
theorem block_logits (r : Fin 8192) : k0_pay13 (F := Ideal) x qb (k0_pay8 (F := Ideal)) (ix2 0 r)
    = if r.val % 4 = 0 then ((-dist q st (2048 * t + r / 4) : ℝ) : EReal) else ⊥ := by
  rw [logits_apply (drow q st t) x qb (block_rows hx hq) r]
  by_cases h : r.val % 4 = 0
  · rw [if_pos h, if_pos h, ← drow_sum q st t (r / 4), show 4 * (r.val / 4) = r.val by omega]
  · rw [if_neg h, if_neg h]

end Block

/-! ## All points -/

/-- The state `s` carries the sums over the first `n` blocks: whatever maximum `M` comes next, the factor for the
    change to it turns the carried sums into those taken with `M`. -/
def Carries (n : ℕ) (s : St Ideal) : Prop :=
  s.mx ≠ (⊤ : EReal) ∧ ∃ (S : ℝ) (A : ℕ → ℕ → ℝ), s.sum = (S : EReal) ∧ (∀ (a : Fin 4) (l : Fin 128), s.acc (ix2 a l) = (A a l : EReal))
    ∧ ∀ M : ℝ, ∃ c : ℝ, Ideal.exp ((s.mx : EReal) - (M : EReal)) = (c : EReal) ∧ S * c = total q st (2048 * n) M
      ∧ ∀ a l : ℕ, A a l * c = moment q st (2048 * n) M (128 * (a / 2) + l) (a % 2)

/-- At the start nothing is carried. -/
theorem carries_init (mu sg : Vec Ideal S1x256 .f32) (d : Vec Ideal S4x8192 .f32) : Carries q st 0 (St.init mu sg d) := by
  have hb : (St.init (F := Ideal) mu sg d).mx = (⊥ : EReal) := ofBits_bot
  refine ⟨by rw [hb]; exact bot_ne_top, 0, fun _ _ => 0, Ideal.ofBits_zero_f32, fun a l => ?_, fun M => ⟨0, ?_, ?_, ?_⟩⟩
  · show k0_pay9 (F := Ideal) (ix2 a l) = _
    pointwise [k0_pay9]
    rfl
  · rw [hb, EReal.bot_sub]; rfl
  · rw [mul_zero, mul_zero]; rfl
  · intro a l; rw [mul_zero, mul_zero]; rfl

/-- A point adds its block. -/
theorem carries_step (n : ℕ) (i : grid0.Coords) (x : Vec Ideal S8192x128 .f32) (s : St Ideal)
    (hx : ∀ (r : Fin 8192) (l : Fin 128), x (ix2 r l) = (xrow st n r l : EReal))
    (hq : ∀ (r : Fin 8192) (l : Fin 128), s.qb (ix2 r l) = (qrow q r l : EReal))
    (hm : s.mi = k0_pay8 (F := Ideal)) (h : Carries q st n s) : Carries q st (n + 1) (s.step i x) := by
  obtain ⟨hmx, S, A, hS, hA, hc⟩ := h
  have hl : ∀ r : Fin 8192, k0_pay13 (F := Ideal) x s.qb s.mi (ix2 0 r)
      = if r.val % 4 = 0 then ((-(fun k => dist q st (2048 * n + k)) (r / 4) : ℝ) : EReal) else ⊥ := fun r => by
    rw [hm]; exact block_logits hx hq r
  obtain ⟨M, hM⟩ := max_apply (fun k => dist q st (2048 * n + k)) x s.qb s.mi hl s.mx hmx
  obtain ⟨c, hcM, hSc, hAc⟩ := hc M
  have h15 : k0_pay15 (F := Ideal) x s.qb s.mi s.mx = (c : EReal) := by
    show Ideal.exp (s.mx - k0_pay14 (F := Ideal) x s.qb s.mi s.mx) = _
    rw [hM, hcM]
  have h16 : ∀ r : Fin 8192, k0_pay16 (F := Ideal) x s.qb s.mi s.mx (ix2 0 r) = (M : EReal) := fun r => by
    pointwise [k0_pay16]
    exact hM
  have hw := weight_apply (fun k => dist q st (2048 * n + k)) M _ _ hl h16
  have h10 : ∀ (r : Fin 8192) (l : Fin 128), k0_pay10 (F := Ideal) x (ix2 r l) = (xrow st n r l : EReal) := fun r l => by
    pointwise [k0_pay10]
    exact hx r l
  refine ⟨?_, total q st (2048 * (n + 1)) M, fun a l => moment q st (2048 * (n + 1)) M (128 * (a / 2) + l) (a % 2), ?_, ?_, ?_⟩
  · show k0_pay14 (F := Ideal) x s.qb s.mi s.mx ≠ (⊤ : EReal)
    rw [hM]; exact EReal.coe_ne_top _
  · show k0_pay2 (F := Ideal) _ _ _ s.sum = _
    rw [h15, hS, sum_apply (fun k => dist q st (2048 * n + k)) M c S _ _ hw, hSc, total_block q st n M M, sub_self,
      Real.exp_zero, mul_one]
    rfl
  · intro a l
    show k0_pay3 (F := Ideal) _ _ _ _ s.acc (ix2 a l) = _
    rw [h15, acc_apply (fun k => dist q st (2048 * n + k)) M c (xrow st n) A _ _ _ _ h10 hA hw a l, hAc]
    show _ = ((moment q st (2048 * (n + 1)) M (128 * (a.val / 2) + l.val) (a.val % 2) : ℝ) : EReal)
    rw [moment_block q st n M M, sub_self, Real.exp_zero, mul_one]
    refine congrArg (fun y : ℝ => ((_ + y : ℝ) : EReal)) (Finset.sum_congr rfl fun k _ => ?_)
    have ha := a.isLt
    unfold xrow
    rw [show (4 * k + a.val) / 4 = k by omega, show (4 * k + a.val) % 4 = a.val by omega, show (4 * k + a.val) % 2 = a.val % 2 by omega]
    rfl
  · intro M'
    refine ⟨Real.exp (M - M'), ?_, (total_shift q st _ M M').symm, fun a l => (moment_shift q st _ M M' _ _).symm⟩
    show Ideal.exp (k0_pay14 (F := Ideal) x s.qb s.mi s.mx - _) = _
    rw [hM, ← EReal.coe_sub]; rfl

/-- What is carried after all blocks gives the weighted means: the factor cancels. -/
theorem carries_quant (s : St Ideal) (h : Carries q st 4 s) (j : Fin 256) :
    k0_pay5 (F := Ideal) s.acc s.sum (ix2 0 j) = (quant q st j : EReal) := by
  obtain ⟨-, S, A, hS, hA, hc⟩ := h
  obtain ⟨c, -, hSc, hAc⟩ := hc 0
  have hp := total_pos q st (2048 * 4) (by norm_num) 0
  have hS0 : S ≠ 0 := fun e => by rw [← hSc, e, zero_mul] at hp; exact lt_irrefl _ hp
  have hc0 : c ≠ 0 := fun e => by rw [← hSc, e, mul_zero] at hp; exact lt_irrefl _ hp
  have hj := j.isLt
  rw [hS, mean_apply s.acc A S hS0 hA j, ← quant_eq q st 0 j, ← mul_div_mul_right _ _ hc0, hSc, hAc,
    show 2 * (j.val / 128) / 2 = j.val / 128 by omega, show 2 * (j.val / 128) % 2 = 0 by omega,
    show 128 * (j.val / 128) + j.val % 128 = j.val by omega]

end Cert.KernelIdeal.Hand

end
-- ==== Proof.Inputs.lean ====
/- The blocks the kernel's grid points are handed, as entries of the three arguments: the query's two rows whole, and
   four rows of 128 entries for every state, laid out by the host before the kernel starts. -/
module

public import proofs.«01_k».proof.Proof.Points
public import proofs.«01_k».proof.Proof.Algebra
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal.Gen

variable {F : FTy → Type} [FloatOps F]
variable (m : (ℓ : Loc nD τ sig) → Buf (Elt F) ℓ)

/-! ## What the host lays out -/

theorem V_v4 (c : Dev nD) : V m c main_v4 = shapeCast S1x256 (m ((c : Thread nD τ).loc main_arg0)) shapeCasts_S256_S1x256 := by
  show StableHlo.after _ _ _ = _
  simp only [hostOps0, List.flatten_cons, List.flatten_nil, List.append_nil]
  after_results_simp
  rfl

theorem V_v5 (c : Dev nD) : V m c main_v5 = shapeCast S1x256 (m ((c : Thread nD τ).loc main_arg1)) shapeCasts_S256_S1x256 := by
  show StableHlo.after _ _ _ = _
  simp only [hostOps0, List.flatten_cons, List.flatten_nil, List.append_nil]
  after_results_simp
  rfl

/-- The states with each state's entries of either kind put in rows of 128. -/
def rowsOf (x : Vec F S8192x256x2 .f32) : Vec F S32768x128 .f32 :=
  shapeCast S32768x128 (transpose S8192x2x2x128 [0, 2, 1, 3]
    (shapeCast S8192x2x2x128 (transpose S8192x2x256 [0, 2, 1] x transposes_S8192x256x2_S8192x2x256_0_2_1)
      shapeCasts_S8192x2x256_S8192x2x2x128) transposes_S8192x2x2x128_S8192x2x2x128_0_2_1_3) shapeCasts_S8192x2x2x128_S32768x128

theorem V_v3 (c : Dev nD) : V m c main_v3 = rowsOf (m ((c : Thread nD τ).loc main_arg2)) := by
  show StableHlo.after _ _ _ = _
  simp only [hostOps0, List.flatten_cons, List.flatten_nil, List.append_nil]
  after_results_simp
  rfl

/-- Row `r` holds state `r / 4`'s entries of kind `r % 2`, the first 128 of them or the last. -/
theorem rowsOf_apply (x : Vec F S8192x256x2 .f32) (r : Fin 32768) (l : Fin 128) : rowsOf x (ix2 r l)
    = x (ix3 ⟨r.val / 4, by omega⟩ ⟨128 * (r.val % 4 / 2) + l.val, by omega⟩ ⟨r.val % 2, by omega⟩) := by
  pointwise [rowsOf]
  exact congrArg x (congrArg (fun j => ix3 _ j _) (Fin.ext (show r.val / 2 % 2 * 128 + l.val = 128 * (r.val % 4 / 2) + l.val by omega)))

/-! ## The blocks -/

theorem muBlk_apply (c : Dev nD) (t : Fin cfg0.N) (j : Fin 256) :
    muBlk m c t (ix2 0 j) = m ((c : Thread nD τ).loc main_arg0) (ix1 j) := by
  have h : ((cfg0.win 0).blk t).view.read (Elt F) (V m c main_v4) = V m c main_v4 := Memref.read_access_unit_zero (Elt F) main_v4
    (show (fun a => (win0_0.index t) a * main_v4.ty.shape.size a) = fun _ => 0 from
      funext fun a => by fin_cases a <;> rfl) (fun a => by fin_cases a <;> exact Nat.le_of_eq (by rfl)) _
  refine (congrFun h (ix2 0 j)).trans ?_
  rw [V_v4]
  pointwise []

theorem sgBlk_apply (c : Dev nD) (t : Fin cfg0.N) (j : Fin 256) :
    sgBlk m c t (ix2 0 j) = m ((c : Thread nD τ).loc main_arg1) (ix1 j) := by
  have h : ((cfg0.win 1).blk t).view.read (Elt F) (V m c main_v5) = V m c main_v5 := Memref.read_access_unit_zero (Elt F) main_v5
    (show (fun a => (win0_1.index t) a * main_v5.ty.shape.size a) = fun _ => 0 from
      funext fun a => by fin_cases a <;> rfl) (fun a => by fin_cases a <;> exact Nat.le_of_eq (by rfl)) _
  refine (congrFun h (ix2 0 j)).trans ?_
  rw [V_v5]
  pointwise []

/-- The block of point `t` is the rows from `8192 t` on. -/
theorem xBlk_rows (c : Dev nD) (t : Fin cfg0.N) (r : Fin 8192) (l : Fin 128) (h : 8192 * t.val + r.val < 32768) :
    xBlk m c t (ix2 r l) = V m c main_v3 (ix2 ⟨8192 * t.val + r.val, h⟩ l) := by
  have ht : t.val < 4 := Nat.lt_of_lt_of_eq t.isLt N_0
  refine congrArg (V m c main_v3) (funext fun a => Fin.ext ?_)
  fin_cases a
  · refine (Window.rect_emb_val win0_2 t _ 0).trans ?_
    have hi : win0_2.index t 0 = t.val := coord_val t
    rw [hi]
    show t.val * 8192 + r.val = 8192 * t.val + r.val
    omega
  · exact Window.rect_emb_val_of_index_zero win0_2 t 1 rfl _

theorem xBlk_apply (c : Dev nD) (t : Fin cfg0.N) (r : Fin 8192) (l : Fin 128) (hk : 2048 * t.val + r.val / 4 < 8192) :
    xBlk m c t (ix2 r l) = m ((c : Thread nD τ).loc main_arg2)
      (ix3 ⟨2048 * t.val + r.val / 4, hk⟩ ⟨128 * (r.val % 4 / 2) + l.val, by omega⟩ ⟨r.val % 2, by omega⟩) := by
  rw [xBlk_rows m c t r l (by omega), V_v3, rowsOf_apply]
  have hr := r.isLt
  exact congrArg _ (congr (congr (congrArg ix3 (Fin.ext (show (8192 * t.val + r.val) / 4 = 2048 * t.val + r.val / 4 by omega)))
    (Fin.ext (show 128 * ((8192 * t.val + r.val) % 4 / 2) + l.val = 128 * (r.val % 4 / 2) + l.val by omega)))
    (Fin.ext (show (8192 * t.val + r.val) % 2 = r.val % 2 by omega)))

end Cert.KernelIdeal.Hand

end
-- ==== Proof.Outputs.lean ====
/- The kernel's results over the extended reals, on arguments that hold reals. -/
module

public import proofs.«01_k».proof.Proof.Results
public import proofs.«01_k».proof.Proof.Invariant
public import proofs.«01_k».proof.Proof.Inputs

@[expose] public section

set_option maxRecDepth 16384

noncomputable section

namespace Cert.KernelIdeal.Hand

open Idealize.ShloMosaic Idealize.ShloMosaic.TcCoe
open Cert.KernelIdeal.Gen Cert.Hand
open Finset (range)

variable (m : (ℓ : Loc nD τ sig) → Buf (Elt Ideal) ℓ)

/-- The arguments the device `c` finds hold the reals `q` and `st`. -/
structure ArgsHold (c : Dev nD) (q : ℕ → ℕ → ℝ) (st : ℕ → ℕ → ℕ → ℝ) : Prop where
  mu : ∀ j : Fin 256, m ((c : Thread nD τ).loc main_arg0) (ix1 j) = (q j 0 : EReal)
  sg : ∀ j : Fin 256, m ((c : Thread nD τ).loc main_arg1) (ix1 j) = (q j 1 : EReal)
  state : ∀ (k : Fin 8192) (j : Fin 256) (s : Fin 2), m ((c : Thread nD τ).loc main_arg2) (ix3 k j s) = (st k j s : EReal)

variable {m} {c : Dev nD} {q : ℕ → ℕ → ℝ} {st : ℕ → ℕ → ℕ → ℝ} (H : ArgsHold m c q st)
include H

/-! ## The blocks -/

theorem block_mu (t : Fin cfg0.N) (j : Fin 256) : muBlk m c t (ix2 0 j) = (q j 0 : EReal) :=
  (muBlk_apply m c t j).trans (H.mu j)

theorem block_sg (t : Fin cfg0.N) (j : Fin 256) : sgBlk m c t (ix2 0 j) = (q j 1 : EReal) :=
  (sgBlk_apply m c t j).trans (H.sg j)

theorem block_query (t t' : Fin cfg0.N) (r : Fin 8192) (l : Fin 128) :
    k0_pay7 (F := Ideal) (muBlk m c t) (sgBlk m c t') (ix2 r l) = (qrow q r l : EReal) :=
  query_apply q _ _ (block_mu H t) (block_sg H t') r l

theorem block_states (t : Fin cfg0.N) (r : Fin 8192) (l : Fin 128) : xBlk m c t (ix2 r l) = (xrow st t r l : EReal) := by
  have ht : t.val < 4 := Nat.lt_of_lt_of_eq t.isLt N_0
  rw [xBlk_apply m c t r l (by omega), H.state]
  rfl

/-! ## The results -/

/-- The sums over the blocks so far are carried. -/
theorem stAt_carries (d : Vec Ideal S4x8192 .f32) : ∀ (n : ℕ) (h : n ≤ cfg0.N), Carries q st n (stAt m c d n h)
  | 0, _ => carries_init q st _ _ _
  | n + 1, h => by
    have e := stAt_qb m c d n (Nat.le_of_succ_le h)
    rw [stAt_succ m c d n h]
    exact carries_step q st n _ _ _ (block_states H ⟨n, h⟩) (fun r l => by rw [e.1]; exact block_query H _ _ r l) e.2
      (stAt_carries d n (Nat.le_of_succ_le h))

theorem outY_apply (j : Fin 256) : outY m c tLast (ix2 0 j) = (quant q st j : EReal) :=
  carries_quant q st _ (stAt_carries H anyRows 4 tLast.isLt) j

theorem outLoss_apply : outLoss m c tLast (ix2 0 0) = (loss q st : EReal) :=
  loss_apply _ _ _ (quant q st) (fun j => q j 0) (outY_apply H) (block_mu H tLast)

theorem outDists_apply (a : Fin 4) (k : Fin 2048) :
    outDists m c tLast (ix2 a k) = (Hand.dist q st (2048 * a + k) : EReal) := by
  rw [← drow_sum q st a k]
  refine dists_apply _ (drow q st) (fun a r => ?_) a k
  have e := stAt_dsp m c anyRows (ix2 a r) 4 tLast.isLt a.isLt
  refine e.trans ((stored_apply _ _ r).trans (block_rows (t := a.val) (block_states H ⟨a.val, Nat.lt_of_lt_of_eq a.isLt N_0.symm⟩)
    (block_query H _ _) r))

/-! ## As the host returns them -/

theorem result_mean (j : Fin 256) :
    shapeCast S256 (outY m c tLast) shapeCasts_S1x256_S256 (ix1 j) = (quant q st j : EReal) := by
  pointwise []
  exact outY_apply H j

theorem result_loss : shapeCast S_ (outLoss m c tLast) shapeCasts_S1x1_S_ ix0 = (loss q st : EReal) := by
  pointwise []
  exact outLoss_apply H

theorem result_dist (k : Fin 8192) :
    shapeCast S8192 (outDists m c tLast) shapeCasts_S4x2048_S8192 (ix1 k) = (Hand.dist q st k : EReal) := by
  pointwise []
  rw [outDists_apply H]
  exact congrArg (fun n => (Hand.dist q st n : EReal)) (show 2048 * (k.val / 2048) + k.val % 2048 = k.val by omega)

end Cert.KernelIdeal.Hand

end
-- ==== Proof.RefValue.lean ====
/- What the reference computes over the extended reals, on arguments that hold reals. -/
module

public import proofs.«01_k».proof.Proof.Gen.ReferenceIdeal.Read
public import proofs.«01_k».proof.Proof.Payloads

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read Cert.Hand
open Finset (range)

variable (q : ℕ → ℕ → ℝ) (st : ℕ → ℕ → ℕ → ℝ)
variable (x0 x1 : FVec Ideal S256 .f32) (x2 : FVec Ideal S8192x256x2 .f32)

/-- The arguments hold the reals `q` and `st`. -/
structure Holds : Prop where
  mu : ∀ j : Fin 256, x0 (ix1 j) = (q j 0 : EReal)
  sg : ∀ j : Fin 256, x1 (ix1 j) = (q j 1 : EReal)
  state : ∀ (k : Fin 8192) (j : Fin 256) (s : Fin 2), x2 (ix3 k j s) = (st k j s : EReal)

variable {q st x0 x1 x2} (H : Holds q st x0 x1 x2)
include H

/-- A state's mean at a dimension. -/
theorem mean_entry (k : Fin 8192) (j : Fin 256) : val_main_v1 (F := Ideal) x2 (ix2 k j) = (st k j 0 : EReal) := by
  pointwise [val_main_v1, val_main_v0]
  exact H.state k j 0

/-- A dimension's part of the squared distance. -/
theorem part_entry (k : Fin 8192) (j : Fin 256) : val_main_v12 (F := Ideal) x0 x1 x2 (ix2 k j)
    = (((q j 0 - st k j 0) ^ 2 + (q j 1 - st k j 1) ^ 2 : ℝ) : EReal) := by
  have h0 : x2 (ix3 k j 0) = (st k j 0 : EReal) := H.state k j 0
  have h1 : x2 (ix3 k j 1) = (st k j 1 : EReal) := H.state k j 1
  pointwise [val_main_v12, val_main_v11, val_main_v10, val_main_v9, val_main_v8, val_main_v7, val_main_v6, val_main_v5,
    val_main_v4, val_main_v3, val_main_v2, val_main_v1, val_main_v0]
  simp only [H.mu, H.sg, h0, h1, ← EReal.coe_sub, ← EReal.coe_mul, ← EReal.coe_add, sq]

/-- The distances. -/
theorem dist_entry (k : Fin 8192) : val_main_v13 (F := Ideal) x0 x1 x2 (ix1 k) = (dist q st k : EReal) := by
  pointwise [val_main_v13, val_main_cst]
  simp only [part_entry H]
  rw [coe_sum_fin 256 (fun j => (q j 0 - st k j 0) ^ 2 + (q j 1 - st k j 1) ^ 2)]
  rfl

theorem logit_entry (k : Fin 8192) : val_main_v14 (F := Ideal) x0 x1 x2 (ix1 k) = ((-dist q st k : ℝ) : EReal) := by
  pointwise [val_main_v14]
  rw [dist_entry H, EReal.coe_neg]

/-- What is taken off every logit is real. -/
theorem max_entry : ∃ M : ℝ, val_main_v16 (F := Ideal) x0 x1 x2 ix0 = (M : EReal) := by
  pointwise [val_main_v16, val_main_v15, val_main_cst_0, val_main_cst_1]
  simp only [logit_entry H]
  rw [KernelIdeal.Hand.ofBits_bot]
  exact max_fold_real _ _ ⊥ bot_ne_top (fun i _ => EReal.coe_ne_top _) 0 (Finset.mem_univ _) (EReal.coe_ne_bot _)

variable {M : ℝ} (hM : val_main_v16 (F := Ideal) x0 x1 x2 ix0 = (M : EReal))
include hM

theorem weight_entry (k : Fin 8192) : val_main_v20 (F := Ideal) x0 x1 x2 (ix1 k) = (wt q st M k : EReal) := by
  pointwise [val_main_v20, val_main_v19, val_main_v18, val_main_v17]
  rw [logit_entry H, hM, ← EReal.coe_sub]; rfl

theorem total_entry : val_main_v21 (F := Ideal) x0 x1 x2 ix0 = (total q st 8192 M : EReal) := by
  pointwise [val_main_v21, val_main_cst_2]
  simp only [weight_entry H hM]
  rw [coe_sum_fin 8192 (fun k => wt q st M k)]; rfl

theorem prob_entry (k : Fin 8192) : val_main_v24 (F := Ideal) x0 x1 x2 (ix1 k)
    = ((wt q st M k / total q st 8192 M : ℝ) : EReal) := by
  pointwise [val_main_v24, val_main_v23, val_main_v22]
  rw [weight_entry H hM, total_entry H hM, Ideal.div_coe (total_pos q st 8192 (by norm_num) M).ne', ← EReal.coe_mul, mul_one_div]

omit hM in
/-- The weighted mean. -/
theorem quant_entry (j : Fin 256) : val_main_v25 (F := Ideal) x0 x1 x2 (ix1 j) = (quant q st j : EReal) := by
  obtain ⟨M, hM⟩ := max_entry H
  pointwise [val_main_v25]
  simp only [prob_entry H hM, mean_entry H, ← EReal.coe_mul]
  rw [coe_sum_fin 8192 (fun k => wt q st M k / total q st 8192 M * st k j 0), ← quant_eq q st M, moment, Finset.sum_div]
  exact congrArg _ (Finset.sum_congr rfl fun k _ => by ring)

omit hM in
/-- The mean squared error, which the reference states twice. -/
theorem loss_entry : val_main_v29 (F := Ideal) x0 x1 x2 ix0 = (loss q st : EReal) := by
  pointwise [val_main_v29, val_main_v28, val_main_v27, val_main_v26, val_main_cst_3, val_main_cst_4]
  simp only [quant_entry H, H.mu, ← EReal.coe_sub, ← EReal.coe_mul]
  rw [coe_sum_fin 256 (fun j => (quant q st j - q j 0) * (quant q st j - q j 0)), KernelIdeal.Hand.ofBits_256,
    Ideal.div_coe (by norm_num), ← EReal.coe_mul, mul_one_div]
  simp only [loss, sq]

omit hM in
theorem loss_entry' : val_main_v33 (F := Ideal) x0 x1 x2 ix0 = (loss q st : EReal) := loss_entry H

end Cert.ReferenceIdeal.Hand

end
-- ==== Proof.Finite.lean ====
/- The precondition read back: every entry of the three arguments is a real number. -/
module

public import proofs.«01_k».proof.Proof.RefValue
public import proofs.«01_k».proof.Proof.Gen.Pre_finite
public import Idealize.ShloMosaic.Lib.ReduceAll

@[expose] public section

set_option maxRecDepth 16384

noncomputable section

namespace Cert.Hand

open Idealize.ShloMosaic Idealize.ShloMosaic.TcCoe
open Cert.ReferenceIdeal

/-- An extended real whose absolute value is below `⊤` is a real. -/
theorem real_of_abs_lt (a : EReal) (h : Ideal.cmp .olt (max a (-a)) (Ideal.ofBits .f32 0x7F800000#32) = 1#1) :
    ∃ r : ℝ, a = (r : EReal) := by
  rw [KernelIdeal.Hand.ofBits_top] at h
  have hlt : max a (-a) < (⊤ : EReal) := by
    by_contra hn
    have e : Ideal.cmp .olt (max a (-a)) (⊤ : EReal) = BitVec.ofBool (decide (max a (-a) < (⊤ : EReal))) := rfl
    rw [e, decide_eq_false hn] at h
    exact absurd h (by decide)
  have h2 := max_lt_iff.1 hlt
  exact exists_real (fun e => by rw [e, EReal.neg_bot] at h2; exact lt_irrefl _ h2.2) h2.1.ne

instance : Subsingleton S_.Idx := ⟨fun a b => funext fun d => d.elim0⟩

theorem finite_decode (x0 x1 : FVec Ideal S256 .f32) (x2 : FVec Ideal S8192x256x2 .f32)
    (h : @Cert.Pre_finite.fn Cert.Pre_finite.Gen.facts Ideal _ x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have h0 := congrFun h ix0
  have h1 := IntOp.andi_eq_one.1 h0
  have h2 := IntOp.andi_eq_one.1 h1.1
  refine ⟨fun i => real_of_abs_lt _ (Host.reduce_andi_all _ _ _ _ ix0 h2.1 i), fun i => real_of_abs_lt _ (Host.reduce_andi_all _ _ _ _ ix0 h2.2 i),
    fun i => real_of_abs_lt _ (Host.reduce_andi_all _ _ _ _ ix0 h1.2 i)⟩

/-- The reals the arguments hold, as functions of numbers. -/
theorem exists_holds (x0 x1 : FVec Ideal S256 .f32) (x2 : FVec Ideal S8192x256x2 .f32)
    (h : @Cert.Pre_finite.fn Cert.Pre_finite.Gen.facts Ideal _ x0 x1 x2 = fun _ => 1#1) :
    ∃ (q : ℕ → ℕ → ℝ) (st : ℕ → ℕ → ℕ → ℝ), ReferenceIdeal.Hand.Holds q st x0 x1 x2 := by
  obtain ⟨h0, h1, h2⟩ := finite_decode x0 x1 x2 h
  choose f0 e0 using h0
  choose f1 e1 using h1
  choose f2 e2 using h2
  refine ⟨fun j s => if hj : j < 256 then if s = 0 then f0 (ix1 ⟨j, hj⟩) else f1 (ix1 ⟨j, hj⟩) else 0,
    fun k j s => if hk : k < 8192 then if hj : j < 256 then if hs : s < 2 then f2 (ix3 ⟨k, hk⟩ ⟨j, hj⟩ ⟨s, hs⟩) else 0 else 0 else 0, ?_, ?_, ?_⟩
  · intro j; rw [e0, dif_pos j.isLt, if_pos rfl]
  · intro j; rw [e1, dif_pos j.isLt, if_neg (by decide)]
  · intro k j s; rw [e2, dif_pos k.isLt, dif_pos j.isLt, dif_pos s.isLt]

end Cert.Hand

end
-- ==== Proof.RefRun.lean ====
/- The reference runs to its end with its arguments unchanged; it has no semaphore, so its counters are at zero. -/
module

public import proofs.«01_k».proof.Proof.Gen.ReferenceIdeal.Run
public import proofs.«01_k».proof.Proof.Gen.ReferenceIdeal.Read
public import Idealize.ShloMosaic.Lib.Quiescent

@[expose] public section

noncomputable section

namespace Cert.ReferenceIdeal.Hand

open Idealize.ShloMosaic Idealize.ShloMosaic.TcCoe Idealize.SL.Sem
open Cert.ReferenceIdeal.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems (by decide) r.2⟩)
    (Cert.ReferenceIdeal.Value.run m ρ)

end Cert.ReferenceIdeal.Hand

end
-- ==== Proof.Equation.lean ====
/- Kernel and reference end with equal results over the extended reals when the arguments are finite. -/
module

public import proofs.«01_k».proof.Proof.Outputs
public import proofs.«01_k».proof.Proof.Finite
public import proofs.«01_k».proof.Proof.RefRun
public import proofs.«01_k».proof.Defs

@[expose] public section

set_option maxRecDepth 16384

noncomputable section

namespace Cert.Hand

open Idealize.ShloMosaic Idealize.ShloMosaic.TcCoe Idealize.SL.Sem
open Cert.ReferenceIdeal.Read

section Results

variable {x0 x1 : FVec Ideal ReferenceIdeal.S256 .f32} {x2 : FVec Ideal ReferenceIdeal.S8192x256x2 .f32}
variable {m : (ℓ : Loc KernelIdeal.nD KernelIdeal.τ KernelIdeal.sig) → Buf (Elt Ideal) ℓ} {c : Dev KernelIdeal.nD}
variable {q : ℕ → ℕ → ℝ} {st : ℕ → ℕ → ℕ → ℝ}
variable (H : ReferenceIdeal.Hand.Holds q st x0 x1 x2) (K : KernelIdeal.Hand.ArgsHold m c q st)
include H K

/-- The weighted means agree, -/
theorem mean_agree : shapeCast KernelIdeal.S256 (KernelIdeal.Hand.outY m c KernelIdeal.Hand.tLast) KernelIdeal.Gen.shapeCasts_S1x256_S256
    = val_main_v25 (F := Ideal) x0 x1 x2 :=
  funext fun i => by
    rw [eq_ix1 i]
    exact (KernelIdeal.Hand.result_mean K (i 0)).trans (ReferenceIdeal.Hand.quant_entry H (i 0)).symm

/-- the errors, -/
theorem loss_agree : shapeCast KernelIdeal.S_ (KernelIdeal.Hand.outLoss m c KernelIdeal.Hand.tLast) KernelIdeal.Gen.shapeCasts_S1x1_S_
    = val_main_v29 (F := Ideal) x0 x1 x2 :=
  funext fun i => by
    rw [show i = ix0 from Subsingleton.elim (α := ReferenceIdeal.S_.Idx) _ _]
    exact (KernelIdeal.Hand.result_loss K).trans (ReferenceIdeal.Hand.loss_entry H).symm

/-- and the distances. -/
theorem dist_agree : shapeCast KernelIdeal.S8192 (KernelIdeal.Hand.outDists m c KernelIdeal.Hand.tLast) KernelIdeal.Gen.shapeCasts_S4x2048_S8192
    = val_main_v13 (F := Ideal) x0 x1 x2 :=
  funext fun i => by
    rw [eq_ix1 i]
    exact (KernelIdeal.Hand.result_dist K (i 0)).trans (ReferenceIdeal.Hand.dist_entry H (i 0)).symm

/-- The reference's second error is its first. -/
theorem loss_agree' : val_main_v29 (F := Ideal) x0 x1 x2 = val_main_v33 (F := Ideal) x0 x1 x2 := rfl

end Results

/-- The claim of equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => shapeCast KernelIdeal.S256 (KernelIdeal.Hand.outY m c KernelIdeal.Hand.tLast) KernelIdeal.Gen.shapeCasts_S1x256_S256,
    fun c => shapeCast KernelIdeal.S_ (KernelIdeal.Hand.outLoss m c KernelIdeal.Hand.tLast) KernelIdeal.Gen.shapeCasts_S1x1_S_,
    fun c => shapeCast KernelIdeal.S_ (KernelIdeal.Hand.outLoss m c KernelIdeal.Hand.tLast) KernelIdeal.Gen.shapeCasts_S1x1_S_,
    fun c => shapeCast KernelIdeal.S8192 (KernelIdeal.Hand.outDists m c KernelIdeal.Hand.tLast) KernelIdeal.Gen.shapeCasts_S4x2048_S8192,
    ?_, ?_⟩
  · exact (θ_run _ _ _).mono (fun r h c => ⟨(h c).1, (h c).2.1, (h c).2.1, (h c).2.2⟩) (KernelIdeal.Hand.run_results m g)
  · refine (θ_run _ _ _).mono (fun r h c => ?_) (ReferenceIdeal.Value.run m' g')
    obtain ⟨h25, h29, h33, h13, hr⟩ := h c
    obtain ⟨e0, e1, e2⟩ := hargs c
    obtain ⟨q, st, H⟩ := exists_holds _ _ _ (hpre c)
    have K : KernelIdeal.Hand.ArgsHold m c q st := ⟨H.mu, H.sg, H.state⟩
    rw [← e0, ← e1, ← e2] at H
    exact ⟨h25.trans ((val_main_v25_eq m' c).trans (mean_agree H K).symm),
      h29.trans ((val_main_v29_eq m' c).trans (loss_agree H K).symm),
      h33.trans ((val_main_v33_eq m' c).trans ((loss_agree' H K).symm.trans (loss_agree H K).symm)),
      h13.trans ((val_main_v13_eq _ _ _).trans (dist_agree H K).symm), hr⟩

end Cert.Hand

end
-- ==== Proof.KernelFrame.lean ====
/- The kernel's frame. The kernel and its idealization are one program text read at two families of
   floats, and the idealization's run was proved at every family: so the two programs are equal, and
   the run carries over. -/
module

public import proofs.«01_k».proof.Proof.Gen.Kernel
public import proofs.«01_k».proof.Proof.Launch

@[expose] public section

set_option maxRecDepth 16384

noncomputable section

namespace Cert.Kernel.Hand

open Idealize.ShloMosaic Idealize.ShloMosaic.TcCoe Idealize.SL.Sem

variable {F : FTy → Type} [FloatOps F] [hK : Cert.Kernel.Facts] [hI : Cert.KernelIdeal.Facts]

/-- The two bodies are one program. -/
theorem body_eq : @Cert.Kernel.cc0__body F _ hK = @Cert.KernelIdeal.cc0__body F _ hI := rfl

/-- So are the body tables. -/
theorem defs0_eq : @Cert.Kernel.defs₀ F _ hK = @Cert.KernelIdeal.defs₀ F _ hI := by
  unfold Cert.Kernel.defs₀ Cert.KernelIdeal.defs₀
  refine congrArg Defs.onTc ?_
  funext l a
  match l, a with
  | ⟨0, _⟩, (t, s) => exact rfl

/-- So are the tables with the pipeline's own bodies. -/
theorem defs_eq : @Cert.Kernel.defs F _ hK = @Cert.KernelIdeal.defs F _ hI :=
  congrArg (Pipeline.defs (Cert.KernelIdeal.pcfgs (F := F))) defs0_eq

/-- So are the host programs. -/
theorem main_eq : @Cert.Kernel.main F _ = @Cert.KernelIdeal.main F _ := rfl

set_option backward.isDefEq.respectTransparency.types false in
/-- The frame: every run of the kernel ends with its arguments unchanged and its counters at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [main_eq, defs_eq (hI := Cert.KernelIdeal.Gen.facts)]
  exact Cert.KernelIdeal.Hand.frame (F := F) m ρ

end Cert.Kernel.Hand

end
-- ==== Proof.lean ====
module

public import proofs.«01_k».proof.Proof.Equation
public import proofs.«01_k».proof.Proof.KernelFrame
public import proofs.«01_k».proof.Defs
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    trivial,
    Cert.Hand.algebraic⟩

end Cert.Proof

end
